-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_n" .f32 0x39638E39#32 ((1 / 4608 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x7168 : Shape := ⟨3, ![4, 8192, 7168]⟩
abbrev S4x8192x4608 : Shape := ⟨3, ![4, 8192, 4608]⟩
abbrev S4608x7168 : Shape := ⟨2, ![4608, 7168]⟩
abbrev S4608 : Shape := ⟨1, ![4608]⟩
abbrev S_ : Shape := ⟨0, ![]⟩

class Facts : Prop where
  bitsLt_bf16_f32 : FTy.bits .bf16 < FTy.bits .f32
  bcast_S_S4x8192x7168 : S_.BroadcastsInDim S4x8192x7168 (![] : Fin 0 → Fin S4x8192x7168.rank)
  reducesTo_S4x8192x7168_S_d0_1_2 : S4x8192x7168.ReducesTo [0, 1, 2] S_
  h_S_ : 0 < S_.numel
  bcast_S_S4608 : S_.BroadcastsInDim S4608 (![] : Fin 0 → Fin S4608.rank)
  reducesTo_S4608_S_d0 : S4608.ReducesTo [0] S_

variable [Facts]

def fn {F : FTy → Type} [FloatOps F] (main_arg0 : FVec F S4x8192x7168 .bf16) (main_arg1 : FVec F S4x8192x4608 .bf16) (main_arg2 : FVec F S4608x7168 .fp8e4m3) (main_arg3 : FVec F S4608 .f32) (main_arg4 : FVec F S4608 .f32) (main_arg5 : FVec F S4608 .f32) : IVec S_ 1 :=
  let main_v0 : FVec F S4x8192x7168 .f32 := (extf .f32 · bitsLt_bf16_f32) main_arg0
  let main_v1 : FVec F S4x8192x7168 .f32 := Host.absf main_v0
  let main_cst : FVec F S_ .f32 := constant S_ .f32 0x7F7FFFFF#32
  let main_v2 : FVec F S4x8192x7168 .f32 := broadcastInDim S4x8192x7168 ![] bcast_S_S4x8192x7168 main_cst
  let main_v3 : IVec S4x8192x7168 1 := cmpf .ole main_v1 main_v2
  let main_c : IVec S_ 1 := constantI S_ 1 1#1
  let main_v4 : IVec S_ 1 := (fun x v => Host.reduce IntOp.andi x v reducesTo_S4x8192x7168_S_d0_1_2 h_S_) main_v3 main_c
  let main_v5 : FVec F S4608 .f32 := Host.absf main_arg5
  let main_cst_0 : FVec F S_ .f32 := constant S_ .f32 0x7F7FFFFF#32
  let main_v6 : FVec F S4608 .f32 := broadcastInDim S4608 ![] bcast_S_S4608 main_cst_0
  let main_v7 : IVec S4608 1 := cmpf .ole main_v5 main_v6
  let main_c_1 : IVec S_ 1 := constantI S_ 1 1#1
  let main_v8 : IVec S_ 1 := (fun x v => Host.reduce IntOp.andi x v reducesTo_S4608_S_d0 h_S_) main_v7 main_c_1
  let main_v9 : IVec S_ 1 := andi main_v4 main_v8
  main_v9
-- ==== Kernel.lean ====
abbrev S4x8192x7168 : Shape := ⟨3, ![4, 8192, 7168]⟩
abbrev S4x8192x4608 : Shape := ⟨3, ![4, 8192, 4608]⟩
abbrev S4608x7168 : Shape := ⟨2, ![4608, 7168]⟩
abbrev S4608 : Shape := ⟨1, ![4608]⟩
abbrev S32768x7168 : Shape := ⟨2, ![32768, 7168]⟩
abbrev S32768x4608 : Shape := ⟨2, ![32768, 4608]⟩
abbrev S1x4608 : Shape := ⟨2, ![1, 4608]⟩
abbrev S32768x1 : Shape := ⟨2, ![32768, 1]⟩
abbrev S256x7168 : Shape := ⟨2, ![256, 7168]⟩
abbrev S256x4608 : Shape := ⟨2, ![256, 4608]⟩
abbrev S256x1 : Shape := ⟨2, ![256, 1]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S512x7168 : Shape := ⟨2, ![512, 7168]⟩
abbrev S256x512 : Shape := ⟨2, ![256, 512]⟩
abbrev S1x128 : Shape := ⟨2, ![1, 128]⟩

abbrev nBuf : Space → Nat
  | .hbm => 16
  | .vmem => 21
  | .smem => 0
  | _ => 0

abbrev bufTy : (tb : Table) → Fin (tcTables nBuf tb) → BufTy
  | .hbm, ⟨0, _⟩ => ⟨S4x8192x7168, .bf16⟩
  | .hbm, ⟨1, _⟩ => ⟨S4x8192x4608, .bf16⟩
  | .hbm, ⟨2, _⟩ => ⟨S4608x7168, .fp8e4m3⟩
  | .hbm, ⟨3, _⟩ => ⟨S4608, .f32⟩
  | .hbm, ⟨4, _⟩ => ⟨S4608, .f32⟩
  | .hbm, ⟨5, _⟩ => ⟨S4608, .f32⟩
  | .hbm, ⟨6, _⟩ => ⟨S32768x7168, .bf16⟩
  | .hbm, ⟨7, _⟩ => ⟨S32768x4608, .bf16⟩
  | .hbm, ⟨8, _⟩ => ⟨S1x4608, .f32⟩
  | .hbm, ⟨9, _⟩ => ⟨S1x4608, .f32⟩
  | .hbm, ⟨10, _⟩ => ⟨S1x4608, .f32⟩
  | .hbm, ⟨11, _⟩ => ⟨S32768x4608, .bf16⟩
  | .hbm, ⟨12, _⟩ => ⟨S32768x7168, .fp8e4m3⟩
  | .hbm, ⟨13, _⟩ => ⟨S32768x1, .f32⟩
  | .hbm, ⟨14, _⟩ => ⟨S32768x4608, .fp8e4m3⟩
  | .hbm, ⟨15, _⟩ => ⟨S32768x1, .f32⟩
  | .local _ .vmem, ⟨0, _⟩ => ⟨S256x7168, .bf16⟩
  | .local _ .vmem, ⟨1, _⟩ => ⟨S256x7168, .bf16⟩
  | .local _ .vmem, ⟨2, _⟩ => ⟨S256x4608, .bf16⟩
  | .local _ .vmem, ⟨3, _⟩ => ⟨S256x4608, .bf16⟩
  | .local _ .vmem, ⟨4, _⟩ => ⟨S4608x7168, .fp8e4m3⟩
  | .local _ .vmem, ⟨5, _⟩ => ⟨S1x4608, .f32⟩
  | .local _ .vmem, ⟨6, _⟩ => ⟨S1x4608, .f32⟩
  | .local _ .vmem, ⟨7, _⟩ => ⟨S1x4608, .f32⟩
  | .local _ .vmem, ⟨8, _⟩ => ⟨S256x4608, .bf16⟩
  | .local _ .vmem, ⟨9, _⟩ => ⟨S256x4608, .bf16⟩
  | .local _ .vmem, ⟨10, _⟩ => ⟨S256x7168, .fp8e4m3⟩
  | .local _ .vmem, ⟨11, _⟩ => ⟨S256x7168, .fp8e4m3⟩
  | .local _ .vmem, ⟨12, _⟩ => ⟨S256x1, .f32⟩
  | .local _ .vmem, ⟨13, _⟩ => ⟨S256x1, .f32⟩
  | .local _ .vmem, ⟨14, _⟩ => ⟨S256x4608, .fp8e4m3⟩
  | .local _ .vmem, ⟨15, _⟩ => ⟨S256x4608, .fp8e4m3⟩
  | .local _ .vmem, ⟨16, _⟩ => ⟨S256x1, .f32⟩
  | .local _ .vmem, ⟨17, _⟩ => ⟨S256x1, .f32⟩
  | .local _ .vmem, ⟨18, _⟩ => ⟨S256x4608, .f32⟩
  | .local _ .vmem, ⟨19, _⟩ => ⟨S256x128, .f32⟩
  | .local _ .vmem, ⟨20, _⟩ => ⟨S256x128, .f32⟩
  | _, _ => ⟨S4x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  v510
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v512 : Index := Scalar.indexCast v511
  let c0_268 : Index := 0#32
  ![v512.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v516 : Index := Scalar.indexCast v511
  let c128_269 : Index := 128#32
  ![v516.toNat, 128]
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v521 : Index := Scalar.indexCast v511
  let c256_270 : Index := 256#32
  ![v521.toNat, 256]
def k0_off4 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v526 : Index := Scalar.indexCast v511
  let c384_271 : Index := 384#32
  ![v526.toNat, 384]
def k0_off5 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v531 : Index := Scalar.indexCast v511
  let c512_272 : Index := 512#32
  ![v531.toNat, 512]
def k0_off6 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v536 : Index := Scalar.indexCast v511
  let c640_273 : Index := 640#32
  ![v536.toNat, 640]
def k0_off7 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v541 : Index := Scalar.indexCast v511
  let c768_274 : Index := 768#32
  ![v541.toNat, 768]
def k0_off8 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v546 : Index := Scalar.indexCast v511
  let c896_275 : Index := 896#32
  ![v546.toNat, 896]
def k0_off9 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v551 : Index := Scalar.indexCast v511
  let c1024_276 : Index := 1024#32
  ![v551.toNat, 1024]
def k0_off10 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v556 : Index := Scalar.indexCast v511
  let c1152_277 : Index := 1152#32
  ![v556.toNat, 1152]
def k0_off11 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v561 : Index := Scalar.indexCast v511
  let c1280_278 : Index := 1280#32
  ![v561.toNat, 1280]
def k0_off12 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v566 : Index := Scalar.indexCast v511
  let c1408_279 : Index := 1408#32
  ![v566.toNat, 1408]
def k0_off13 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v571 : Index := Scalar.indexCast v511
  let c1536_280 : Index := 1536#32
  ![v571.toNat, 1536]
def k0_off14 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v576 : Index := Scalar.indexCast v511
  let c1664_281 : Index := 1664#32
  ![v576.toNat, 1664]
def k0_off15 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v581 : Index := Scalar.indexCast v511
  let c1792_282 : Index := 1792#32
  ![v581.toNat, 1792]
def k0_off16 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v586 : Index := Scalar.indexCast v511
  let c1920_283 : Index := 1920#32
  ![v586.toNat, 1920]
def k0_off17 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v591 : Index := Scalar.indexCast v511
  let c2048_284 : Index := 2048#32
  ![v591.toNat, 2048]
def k0_off18 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v596 : Index := Scalar.indexCast v511
  let c2176_285 : Index := 2176#32
  ![v596.toNat, 2176]
def k0_off19 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v601 : Index := Scalar.indexCast v511
  let c2304_286 : Index := 2304#32
  ![v601.toNat, 2304]
def k0_off20 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v606 : Index := Scalar.indexCast v511
  let c2432_287 : Index := 2432#32
  ![v606.toNat, 2432]
def k0_off21 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v611 : Index := Scalar.indexCast v511
  let c2560_288 : Index := 2560#32
  ![v611.toNat, 2560]
def k0_off22 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v616 : Index := Scalar.indexCast v511
  let c2688_289 : Index := 2688#32
  ![v616.toNat, 2688]
def k0_off23 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v621 : Index := Scalar.indexCast v511
  let c2816_290 : Index := 2816#32
  ![v621.toNat, 2816]
def k0_off24 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v626 : Index := Scalar.indexCast v511
  let c2944_291 : Index := 2944#32
  ![v626.toNat, 2944]
def k0_off25 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v631 : Index := Scalar.indexCast v511
  let c3072_292 : Index := 3072#32
  ![v631.toNat, 3072]
def k0_off26 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v636 : Index := Scalar.indexCast v511
  let c3200_293 : Index := 3200#32
  ![v636.toNat, 3200]
def k0_off27 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v641 : Index := Scalar.indexCast v511
  let c3328_294 : Index := 3328#32
  ![v641.toNat, 3328]
def k0_off28 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v646 : Index := Scalar.indexCast v511
  let c3456_295 : Index := 3456#32
  ![v646.toNat, 3456]
def k0_off29 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v651 : Index := Scalar.indexCast v511
  let c3584_296 : Index := 3584#32
  ![v651.toNat, 3584]
def k0_off30 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v656 : Index := Scalar.indexCast v511
  let c3712_297 : Index := 3712#32
  ![v656.toNat, 3712]
def k0_off31 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v661 : Index := Scalar.indexCast v511
  let c3840_298 : Index := 3840#32
  ![v661.toNat, 3840]
def k0_off32 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v666 : Index := Scalar.indexCast v511
  let c3968_299 : Index := 3968#32
  ![v666.toNat, 3968]
def k0_off33 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v671 : Index := Scalar.indexCast v511
  let c4096_300 : Index := 4096#32
  ![v671.toNat, 4096]
def k0_off34 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v676 : Index := Scalar.indexCast v511
  let c4224_301 : Index := 4224#32
  ![v676.toNat, 4224]
def k0_off35 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v681 : Index := Scalar.indexCast v511
  let c4352_302 : Index := 4352#32
  ![v681.toNat, 4352]
def k0_off36 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v686 : Index := Scalar.indexCast v511
  let c4480_303 : Index := 4480#32
  ![v686.toNat, 4480]
def k0_off37 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v691 : Index := Scalar.indexCast v511
  let c4608 : Index := 4608#32
  ![v691.toNat, 4608]
def k0_off38 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v696 : Index := Scalar.indexCast v511
  let c4736 : Index := 4736#32
  ![v696.toNat, 4736]
def k0_off39 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v701 : Index := Scalar.indexCast v511
  let c4864 : Index := 4864#32
  ![v701.toNat, 4864]
def k0_off40 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v706 : Index := Scalar.indexCast v511
  let c4992 : Index := 4992#32
  ![v706.toNat, 4992]
def k0_off41 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v711 : Index := Scalar.indexCast v511
  let c5120 : Index := 5120#32
  ![v711.toNat, 5120]
def k0_off42 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v716 : Index := Scalar.indexCast v511
  let c5248 : Index := 5248#32
  ![v716.toNat, 5248]
def k0_off43 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v721 : Index := Scalar.indexCast v511
  let c5376 : Index := 5376#32
  ![v721.toNat, 5376]
def k0_off44 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v726 : Index := Scalar.indexCast v511
  let c5504 : Index := 5504#32
  ![v726.toNat, 5504]
def k0_off45 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v731 : Index := Scalar.indexCast v511
  let c5632 : Index := 5632#32
  ![v731.toNat, 5632]
def k0_off46 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v736 : Index := Scalar.indexCast v511
  let c5760 : Index := 5760#32
  ![v736.toNat, 5760]
def k0_off47 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v741 : Index := Scalar.indexCast v511
  let c5888 : Index := 5888#32
  ![v741.toNat, 5888]
def k0_off48 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v746 : Index := Scalar.indexCast v511
  let c6016 : Index := 6016#32
  ![v746.toNat, 6016]
def k0_off49 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v751 : Index := Scalar.indexCast v511
  let c6144 : Index := 6144#32
  ![v751.toNat, 6144]
def k0_off50 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v756 : Index := Scalar.indexCast v511
  let c6272 : Index := 6272#32
  ![v756.toNat, 6272]
def k0_off51 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v761 : Index := Scalar.indexCast v511
  let c6400 : Index := 6400#32
  ![v761.toNat, 6400]
def k0_off52 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v766 : Index := Scalar.indexCast v511
  let c6528 : Index := 6528#32
  ![v766.toNat, 6528]
def k0_off53 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v771 : Index := Scalar.indexCast v511
  let c6656 : Index := 6656#32
  ![v771.toNat, 6656]
def k0_off54 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v776 : Index := Scalar.indexCast v511
  let c6784 : Index := 6784#32
  ![v776.toNat, 6784]
def k0_off55 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v781 : Index := Scalar.indexCast v511
  let c6912 : Index := 6912#32
  ![v781.toNat, 6912]
def k0_off56 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v786 : Index := Scalar.indexCast v511
  let c7040 : Index := 7040#32
  ![v786.toNat, 7040]
def k0_off57 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v889 : Index := Scalar.indexCast v511
  let c0_330 : Index := 0#32
  ![v889.toNat, 0]
def k0_off58 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v510 : BitVec 32 := Scalar.muli arg15 c32_i32
  let v511 : BitVec 32 := v510
  let v893 : Index := Scalar.indexCast v511
  let c0_331 : Index := 0#32
  ![v893.toNat, 0]
@[reducible] def k0_t2_loop : Scf.Loop 32 :=
  let c0_i32_264 : BitVec 32 := 0#32
  let c8_i32_265 : BitVec 32 := 8#32
  let v509 : BitVec 32 := Scalar.addi c0_i32_264 c8_i32_265
  let c1_i32_266 : BitVec 32 := 1#32
  ⟨c0_i32_264, v509, c1_i32_266⟩
def k0_mult2 (k0_t2 : Fin k0_t2_loop.trips) : BitVec 32 :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  v510
def k0_off59 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v512 : Index := Scalar.indexCast v511
  let c0_268 : Index := 0#32
  ![v512.toNat, 0]
def k0_off60 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v524 : Index := Scalar.indexCast v511
  let c0_273 : Index := 0#32
  ![v524.toNat, 0]
def k0_off61 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v544 : Index := Scalar.indexCast v511
  let c128_279 : Index := 128#32
  ![v544.toNat, 128]
def k0_off62 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v564 : Index := Scalar.indexCast v511
  let c256_285 : Index := 256#32
  ![v564.toNat, 256]
def k0_off63 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v584 : Index := Scalar.indexCast v511
  let c384_291 : Index := 384#32
  ![v584.toNat, 384]
def k0_off64 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v604 : Index := Scalar.indexCast v511
  let c512_297 : Index := 512#32
  ![v604.toNat, 512]
def k0_off65 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v624 : Index := Scalar.indexCast v511
  let c640_303 : Index := 640#32
  ![v624.toNat, 640]
def k0_off66 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v644 : Index := Scalar.indexCast v511
  let c768_309 : Index := 768#32
  ![v644.toNat, 768]
def k0_off67 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v664 : Index := Scalar.indexCast v511
  let c896_315 : Index := 896#32
  ![v664.toNat, 896]
def k0_off68 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v684 : Index := Scalar.indexCast v511
  let c1024_321 : Index := 1024#32
  ![v684.toNat, 1024]
def k0_off69 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v704 : Index := Scalar.indexCast v511
  let c1152_327 : Index := 1152#32
  ![v704.toNat, 1152]
def k0_off70 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v724 : Index := Scalar.indexCast v511
  let c1280_333 : Index := 1280#32
  ![v724.toNat, 1280]
def k0_off71 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v744 : Index := Scalar.indexCast v511
  let c1408_339 : Index := 1408#32
  ![v744.toNat, 1408]
def k0_off72 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v764 : Index := Scalar.indexCast v511
  let c1536_345 : Index := 1536#32
  ![v764.toNat, 1536]
def k0_off73 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v784 : Index := Scalar.indexCast v511
  let c1664_351 : Index := 1664#32
  ![v784.toNat, 1664]
def k0_off74 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v804 : Index := Scalar.indexCast v511
  let c1792_357 : Index := 1792#32
  ![v804.toNat, 1792]
def k0_off75 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v824 : Index := Scalar.indexCast v511
  let c1920_363 : Index := 1920#32
  ![v824.toNat, 1920]
def k0_off76 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v844 : Index := Scalar.indexCast v511
  let c2048_369 : Index := 2048#32
  ![v844.toNat, 2048]
def k0_off77 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v864 : Index := Scalar.indexCast v511
  let c2176_375 : Index := 2176#32
  ![v864.toNat, 2176]
def k0_off78 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v884 : Index := Scalar.indexCast v511
  let c2304_381 : Index := 2304#32
  ![v884.toNat, 2304]
def k0_off79 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v904 : Index := Scalar.indexCast v511
  let c2432_387 : Index := 2432#32
  ![v904.toNat, 2432]
def k0_off80 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v924 : Index := Scalar.indexCast v511
  let c2560_393 : Index := 2560#32
  ![v924.toNat, 2560]
def k0_off81 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v944 : Index := Scalar.indexCast v511
  let c2688_399 : Index := 2688#32
  ![v944.toNat, 2688]
def k0_off82 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v964 : Index := Scalar.indexCast v511
  let c2816_405 : Index := 2816#32
  ![v964.toNat, 2816]
def k0_off83 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v984 : Index := Scalar.indexCast v511
  let c2944_411 : Index := 2944#32
  ![v984.toNat, 2944]
def k0_off84 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1004 : Index := Scalar.indexCast v511
  let c3072_417 : Index := 3072#32
  ![v1004.toNat, 3072]
def k0_off85 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1024 : Index := Scalar.indexCast v511
  let c3200_423 : Index := 3200#32
  ![v1024.toNat, 3200]
def k0_off86 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1044 : Index := Scalar.indexCast v511
  let c3328_429 : Index := 3328#32
  ![v1044.toNat, 3328]
def k0_off87 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1064 : Index := Scalar.indexCast v511
  let c3456_435 : Index := 3456#32
  ![v1064.toNat, 3456]
def k0_off88 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1084 : Index := Scalar.indexCast v511
  let c3584_441 : Index := 3584#32
  ![v1084.toNat, 3584]
def k0_off89 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1104 : Index := Scalar.indexCast v511
  let c3712_447 : Index := 3712#32
  ![v1104.toNat, 3712]
def k0_off90 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1124 : Index := Scalar.indexCast v511
  let c3840_453 : Index := 3840#32
  ![v1124.toNat, 3840]
def k0_off91 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1144 : Index := Scalar.indexCast v511
  let c3968_459 : Index := 3968#32
  ![v1144.toNat, 3968]
def k0_off92 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1164 : Index := Scalar.indexCast v511
  let c4096_465 : Index := 4096#32
  ![v1164.toNat, 4096]
def k0_off93 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1184 : Index := Scalar.indexCast v511
  let c4224_471 : Index := 4224#32
  ![v1184.toNat, 4224]
def k0_off94 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1204 : Index := Scalar.indexCast v511
  let c4352_477 : Index := 4352#32
  ![v1204.toNat, 4352]
def k0_off95 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1224 : Index := Scalar.indexCast v511
  let c4480_483 : Index := 4480#32
  ![v1224.toNat, 4480]
def k0_off96 (k0_t2 : Fin k0_t2_loop.trips) : Fin 2 → Nat :=
  let c0_i32_264 : BitVec 32 := 0#32
  let c1_i32_266 : BitVec 32 := 1#32
  let arg15 : BitVec 32 := Scf.iv c0_i32_264 c1_i32_266 k0_t2
  let c32_i32 : BitVec 32 := 32#32
  let v510 : BitVec 32 := Scalar.muli arg15 c32_i32
  let v511 : BitVec 32 := v510
  let v1819 : Index := Scalar.indexCast v511
  let c0_663 : Index := 0#32
  ![v1819.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4608x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4608 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_n" => some ((1 / 4608 : ℝ) : EReal)
  | _ => none
-- ==== ReferenceIdeal.lean ====
abbrev S4x8192x7168 : Shape := ⟨3, ![4, 8192, 7168]⟩
abbrev S4x8192x4608 : Shape := ⟨3, ![4, 8192, 4608]⟩
abbrev S4608x7168 : Shape := ⟨2, ![4608, 7168]⟩
abbrev S4608 : Shape := ⟨1, ![4608]⟩
abbrev S32768x7168 : Shape := ⟨2, ![32768, 7168]⟩
abbrev S32768x4608 : Shape := ⟨2, ![32768, 4608]⟩
abbrev S1x4608 : Shape := ⟨2, ![1, 4608]⟩
abbrev S32768x1 : Shape := ⟨2, ![32768, 1]⟩
abbrev S32768 : Shape := ⟨1, ![32768]⟩
abbrev S1x254 : Shape := ⟨2, ![1, 254]⟩
abbrev S32768x254 : Shape := ⟨2, ![32768, 254]⟩

abbrev nBuf : Space → Nat
  | .hbm => 16
  | .vmem => 11
  | .smem => 0
  | _ => 0

abbrev bufTy : (tb : Table) → Fin (tcTables nBuf tb) → BufTy
  | .hbm, ⟨0, _⟩ => ⟨S4x8192x7168, .bf16⟩
  | .hbm, ⟨1, _⟩ => ⟨S4x8192x4608, .bf16⟩
  | .hbm, ⟨2, _⟩ => ⟨S4608x7168, .fp8e4m3⟩
  | .hbm, ⟨3, _⟩ => ⟨S4608, .f32⟩
  | .hbm, ⟨4, _⟩ => ⟨S4608, .f32⟩
  | .hbm, ⟨5, _⟩ => ⟨S4608, .f32⟩
  | .hbm, ⟨6, _⟩ => ⟨S32768x7168, .bf16⟩
  | .hbm, ⟨7, _⟩ => ⟨S32768x4608, .bf16⟩
  | .hbm, ⟨8, _⟩ => ⟨S1x4608, .f32⟩
  | .hbm, ⟨9, _⟩ => ⟨S1x4608, .f32⟩
  | .hbm, ⟨10, _⟩ => ⟨S1x4608, .f32⟩
  | .hbm, ⟨11, _⟩ => ⟨S32768x4608, .bf16⟩
  | .hbm, ⟨12, _⟩ => ⟨S32768x7168, .fp8e4m3⟩
  | .hbm, ⟨13, _⟩ => ⟨S32768x1, .f32⟩
  | .hbm, ⟨14, _⟩ => ⟨S32768x4608, .fp8e4m3⟩
  | .hbm, ⟨15, _⟩ => ⟨S32768x1, .f32⟩
  | .local _ .vmem, ⟨0, _⟩ => ⟨S32768x7168, .bf16⟩
  | .local _ .vmem, ⟨1, _⟩ => ⟨S32768x4608, .bf16⟩
  | .local _ .vmem, ⟨2, _⟩ => ⟨S4608x7168, .fp8e4m3⟩
  | .local _ .vmem, ⟨3, _⟩ => ⟨S1x4608, .f32⟩
  | .local _ .vmem, ⟨4, _⟩ => ⟨S1x4608, .f32⟩
  | .local _ .vmem, ⟨5, _⟩ => ⟨S1x4608, .f32⟩
  | .local _ .vmem, ⟨6, _⟩ => ⟨S32768x4608, .bf16⟩
  | .local _ .vmem, ⟨7, _⟩ => ⟨S32768x7168, .fp8e4m3⟩
  | .local _ .vmem, ⟨8, _⟩ => ⟨S32768x1, .f32⟩
  | .local _ .vmem, ⟨9, _⟩ => ⟨S32768x4608, .fp8e4m3⟩
  | .local _ .vmem, ⟨10, _⟩ => ⟨S32768x1, .f32⟩
  | _, _ => ⟨S4x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32768x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x4608 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32768x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32768x4608 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32768x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.ForgetRun.lean ====
/- The kernel's body as a triple that says nothing of what the outputs hold: it runs, and hands every buffer back. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Forget

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1176000 in
/-- The body's triple: on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S256x7168 .bf16) (harg1 : arg1.IsWhole) (arg2 : Memref sig .tc .vmem S256x4608 .bf16) (harg2 : arg2.IsWhole) (arg3 : Memref sig .tc .vmem S4608x7168 .fp8e4m3) (harg3 : arg3.IsWhole) (arg4 : Memref sig .tc .vmem S1x4608 .f32) (harg4 : arg4.IsWhole) (arg5 : Memref sig .tc .vmem S1x4608 .f32) (harg5 : arg5.IsWhole) (arg6 : Memref sig .tc .vmem S1x4608 .f32) (harg6 : arg6.IsWhole) (arg7 : Memref sig .tc .vmem S256x4608 .bf16) (harg7 : arg7.IsWhole) (arg8 : Memref sig .tc .vmem S256x7168 .fp8e4m3) (harg8 : arg8.IsWhole) (arg9 : Memref sig .tc .vmem S256x1 .f32) (harg9 : arg9.IsWhole) (arg10 : Memref sig .tc .vmem S256x4608 .fp8e4m3) (harg10 : arg10.IsWhole) (arg11 : Memref sig .tc .vmem S256x1 .f32) (harg11 : arg11.IsWhole) (arg12 : Memref sig .tc .vmem S256x4608 .f32) (harg12 : arg12.IsWhole) (arg13 : Memref sig .tc .vmem S256x128 .f32) (harg13 : arg13.IsWhole) (arg14 : Memref sig .tc .vmem S256x128 .f32) (harg14 : arg14.IsWhole)
    (x0 : Vec F S256x7168 .bf16) (x1 : Vec F S256x4608 .bf16) (x2 : Vec F S4608x7168 .fp8e4m3) (x3 : Vec F S1x4608 .f32) (x4 : Vec F S1x4608 .f32) (x5 : Vec F S1x4608 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_oproj_norms i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_oproj_norms_eq_skeleton]; unfold cc0_oproj_norms_skel
    simp only [k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Forget

end
-- ==== Proof.ForgetFrame.lean ====
/- The kernel's frame: it runs, its arguments end unchanged, every semaphore counter ends at zero. -/
module

public import proofs.«01_k».proof.Proof.ForgetRun
public import Idealize.ShloMosaic.Lib.Claim

@[expose] public section

-- membership in a rectangle of production extents (`View.cover_of_tiled`): the elaborator's structural look
-- recurses once per coordinate of the long axes
set_option maxRecDepth 16384

noncomputable section

namespace Cert.Kernel.Forget

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- Window 1 still holds its block after it. -/
theorem after0_1 (c : Dev nD) (t : Fin cfg0.N) : (dats m 0 c).after 1 t = iblk m c 1 t := by dsimp only [dats]
/-- Window 2 still holds its block after it. -/
theorem after0_2 (c : Dev nD) (t : Fin cfg0.N) : (dats m 0 c).after 2 t = iblk m c 2 t := by dsimp only [dats]
/-- Window 3 still holds its block after it. -/
theorem after0_3 (c : Dev nD) (t : Fin cfg0.N) : (dats m 0 c).after 3 t = iblk m c 3 t := by dsimp only [dats]
/-- Window 4 still holds its block after it. -/
theorem after0_4 (c : Dev nD) (t : Fin cfg0.N) : (dats m 0 c).after 4 t = iblk m c 4 t := by dsimp only [dats]
/-- Window 5 still holds its block after it. -/
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1 holds its block before a point's body. -/
theorem before0_1 (c : Dev nD) (t : Fin cfg0.N) (d) : (dats m 0 c).before 1 t d = iblk m c 1 t :=
  before0_1_of m (dats m 0 c) (A_eq m c 1) (after0_1 m c) t d
/-- Window 2 holds its block before a point's body. -/
theorem before0_2 (c : Dev nD) (t : Fin cfg0.N) (d) : (dats m 0 c).before 2 t d = iblk m c 2 t :=
  before0_2_of m (dats m 0 c) (A_eq m c 2) (after0_2 m c) t d
/-- Window 3 holds its block before a point's body. -/
theorem before0_3 (c : Dev nD) (t : Fin cfg0.N) (d) : (dats m 0 c).before 3 t d = iblk m c 3 t :=
  before0_3_of m (dats m 0 c) (A_eq m c 3) (after0_3 m c) t d
/-- Window 4 holds its block before a point's body. -/
theorem before0_4 (c : Dev nD) (t : Fin cfg0.N) (d) : (dats m 0 c).before 4 t d = iblk m c 4 t :=
  before0_4_of m (dats m 0 c) (A_eq m c 4) (after0_4 m c) t d
/-- Window 5 holds its block before a point's body. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Forget

end
-- ==== Proof.RunV.lean ====
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1176000 in
/-- The whole body run once on whole staging memrefs: the inputs' at their contents `x0 … x5`, the outputs' and the
    scratch buffers' at any initial contents `f6 … fs2`. Each output's buffer ends as its initial contents with a list of
    pieces written; the lists are functions of the initial contents (a loop's trip reads a buffer written before it as a
    whole), and the run finds them. -/
noncomputable def runV (c : Dev nD) (i : grid0.Coords) (arg1 : Memref sig .tc .vmem S256x7168 .bf16) (harg1 : arg1.IsWhole) (arg2 : Memref sig .tc .vmem S256x4608 .bf16) (harg2 : arg2.IsWhole) (arg3 : Memref sig .tc .vmem S4608x7168 .fp8e4m3) (harg3 : arg3.IsWhole) (arg4 : Memref sig .tc .vmem S1x4608 .f32) (harg4 : arg4.IsWhole) (arg5 : Memref sig .tc .vmem S1x4608 .f32) (harg5 : arg5.IsWhole) (arg6 : Memref sig .tc .vmem S1x4608 .f32) (harg6 : arg6.IsWhole) (arg7 : Memref sig .tc .vmem S256x4608 .bf16) (harg7 : arg7.IsWhole) (arg8 : Memref sig .tc .vmem S256x7168 .fp8e4m3) (harg8 : arg8.IsWhole) (arg9 : Memref sig .tc .vmem S256x1 .f32) (harg9 : arg9.IsWhole) (arg10 : Memref sig .tc .vmem S256x4608 .fp8e4m3) (harg10 : arg10.IsWhole) (arg11 : Memref sig .tc .vmem S256x1 .f32) (harg11 : arg11.IsWhole) (arg12 : Memref sig .tc .vmem S256x4608 .f32) (harg12 : arg12.IsWhole) (arg13 : Memref sig .tc .vmem S256x128 .f32) (harg13 : arg13.IsWhole) (arg14 : Memref sig .tc .vmem S256x128 .f32) (harg14 : arg14.IsWhole)
    (x0 : Vec F S256x7168 .bf16) (x1 : Vec F S256x4608 .bf16) (x2 : Vec F S4608x7168 .fp8e4m3) (x3 : Vec F S1x4608 .f32) (x4 : Vec F S1x4608 .f32) (x5 : Vec F S1x4608 .f32) :
    Σ' (L6 : Buf (Elt F) (arg7.view.loc (c : Thread nD τ)) → Buf (Elt F) (arg8.view.loc (c : Thread nD τ)) → Buf (Elt F) (arg10.view.loc (c : Thread nD τ)) → Buf (Elt F) (arg11.view.loc (c : Thread nD τ)) → Buf (Elt F) (arg14.view.loc (c : Thread nD τ)) → List (View.Piece (Elt F) S256x4608 .bf16)), Σ' (L7 : List (View.Piece (Elt F) S256x7168 .fp8e4m3)), Σ' (L8 : List (View.Piece (Elt F) S256x1 .f32)),
    Σ' (L9 : Buf (Elt F) (arg7.view.loc (c : Thread nD τ)) → Buf (Elt F) (arg8.view.loc (c : Thread nD τ)) → Buf (Elt F) (arg10.view.loc (c : Thread nD τ)) → Buf (Elt F) (arg11.view.loc (c : Thread nD τ)) → Buf (Elt F) (arg14.view.loc (c : Thread nD τ)) → List (View.Piece (Elt F) S256x4608 .fp8e4m3)), { L10 : Buf (Elt F) (arg7.view.loc (c : Thread nD τ)) → Buf (Elt F) (arg8.view.loc (c : Thread nD τ)) → Buf (Elt F) (arg10.view.loc (c : Thread nD τ)) → Buf (Elt F) (arg11.view.loc (c : Thread nD τ)) → Buf (Elt F) (arg14.view.loc (c : Thread nD τ)) → List (View.Piece (Elt F) S256x1 .f32) //
      ∀ (E : Set ℕ) (K : PUnit → sProp 𝕄) (f6 : Buf (Elt F) (arg7.view.loc (c : Thread nD τ))) (f7 : Buf (Elt F) (arg8.view.loc (c : Thread nD τ))) (f8 : Buf (Elt F) (arg9.view.loc (c : Thread nD τ))) (f9 : Buf (Elt F) (arg10.view.loc (c : Thread nD τ))) (f10 : Buf (Elt F) (arg11.view.loc (c : Thread nD τ))) (fs0 : Buf (Elt F) (arg12.view.loc (c : Thread nD τ))) (fs1 : Buf (Elt F) (arg13.view.loc (c : Thread nD τ))) (fs2 : Buf (Elt F) (arg14.view.loc (c : Thread nD τ))),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} fs0) ∗ (arg13.view.loc (c : Thread nD τ) ↦[arg13.view.set]{fullShare} fs1) ∗ (arg14.view.loc (c : Thread nD τ) ↦[arg14.view.set]{fullShare} fs2)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) f6 (L6 f6 f7 f9 f10 fs2)) ∗ (arg8.view.loc (c : Thread nD τ) ↦[arg8.view.set]{fullShare} arg8.view.writes (Elt F) f7 L7) ∗ (arg9.view.loc (c : Thread nD τ) ↦[arg9.view.set]{fullShare} arg9.view.writes (Elt F) f8 L8) ∗ (arg10.view.loc (c : Thread nD τ) ↦[arg10.view.set]{fullShare} arg10.view.writes (Elt F) f9 (L9 f6 f7 f9 f10 fs2)) ∗ (arg11.view.loc (c : Thread nD τ) ↦[arg11.view.set]{fullShare} arg11.view.writes (Elt F) f10 (L10 f6 f7 f9 f10 fs2)) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_oproj_norms i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K f6 f7 f8 f9 f10 fs0 fs1 fs2 => ?run⟩
  case run =>
    simp only [cc0_oproj_norms_eq_skeleton]; unfold cc0_oproj_norms_skel
    simp only [k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, H6, H7, H8, H9, H10, HS0, HS1, HS2, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [H7]; · iexact H7
    isplitl [H8]; · iexact H8
    isplitl [H9]; · iexact H9
    isplitl [H10]; · iexact H10
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Val

end
-- ==== Proof.Spec.lean ====
module

public import proofs.«01_k».proof.Proof.Gen.KernelIdeal
public import Idealize.ShloMosaic.Lib.Pipeline.ValueKit
public import Idealize.ShloMosaic.Lib.Pipeline.ReadBack

@[expose] public section

noncomputable section

namespace Cert.Spec

open Idealize.ShloMosaic

/-! What one row of the kernel computes, over the extended reals. -/

/-- The constants the kernel prints, as the values their words denote. -/
abbrev bits (b : BitVec 32) : EReal := FloatOps.ofBits (F := Ideal) .f32 b

/-- One step of the kernel's search for the exponent field: the amount `s` is added when `a` is at least the power of two whose
    field is `k + s`. -/
def step (a : EReal) (k s : BitVec 32) : BitVec 32 :=
  Scalar.select (FloatOps.cmpf (F := Ideal) (φ := .f32) .olt a (bits (IntOp.shli .vector (IntOp.addi k s) 23#32))) k (IntOp.addi k s)

/-- The exponent field the kernel finds for `a`. -/
def field (a : EReal) : BitVec 32 :=
  step a (step a (step a (step a (step a (step a (step a (step a 0#32 128#32) 64#32) 32#32) 16#32) 8#32) 4#32) 2#32) 1#32

/-- The exponent the kernel takes from a field: 0 for the fields 0 and 255. -/
def expo (b : BitVec 32) : BitVec 32 :=
  Scalar.select (IntOp.ori (IntOp.cmpi .eq b 0#32) (IntOp.cmpi .eq b 255#32)) 0#32 (IntOp.subi b 126#32)

/-- The magnitude of an extended real. -/
abbrev mag (v : EReal) : EReal := FloatOps.absf (F := Ideal) (φ := .f32) v

/-- The kernel's scale for the scaled magnitude `v`. -/
def scaleK (v : EReal) : EReal := bits (IntOp.shli .vector (IntOp.addi (expo (field (mag v))) 127#32) 23#32)

/-- The kernel's reciprocal scale for the scaled magnitude `v`. -/
def invK (v : EReal) : EReal := bits (IntOp.shli .vector (IntOp.subi 127#32 (expo (field (mag v)))) 23#32)

/-- The code of `v` under the reciprocal scale `i`: the product kept within ±448. -/
def code (v i : EReal) : EReal := min (bits 1138753536#32) (max (bits 3286237184#32) (v * i))

/-- The largest magnitude of a row, times the constant near 1/448. -/
def amax {n : ℕ} (v : Fin n → EReal) : EReal := (Finset.univ.sup fun c => mag (v c)) * bits 991054117#32

/-- The codes of a row. -/
def codes {n : ℕ} (v : Fin n → EReal) (c : Fin n) : EReal := code (v c) (invK (amax v))

/-- The reciprocal root of a row's mean square plus the constant. -/
def rinv (v : Fin 4608 → EReal) : EReal :=
  FloatOps.rsqrt (F := Ideal) (φ := .f32) ((∑ c, v c * v c) * ((1 / 4608 : ℝ) : EReal) + bits 897988541#32)

/-- A row of the product with the weights, scaled. -/
def yrow (x : Fin 7168 → EReal) (w : Fin 4608 → Fin 7168 → EReal) (ws : Fin 4608 → EReal) (n : Fin 4608) : EReal :=
  (∑ k, codes x k * w n k) * scaleK (amax x) * ws n

/-- A row of the first output: the normalised product plus the residual. -/
def hrow (x : Fin 7168 → EReal) (w : Fin 4608 → Fin 7168 → EReal) (ws gpost resid : Fin 4608 → EReal) (n : Fin 4608) : EReal :=
  yrow x w ws n * rinv (yrow x w ws) * (bits 1065353216#32 + gpost n) + resid n

/-- A row of the second normalisation. -/
def zrow (h gpre : Fin 4608 → EReal) (n : Fin 4608) : EReal := h n * rinv h * (bits 1065353216#32 + gpre n)

/-- The largest of the first `n + 1` members. -/
def maxTo (f : ℕ → EReal) : ℕ → EReal
  | 0 => f 0
  | n + 1 => max (maxTo f n) (f (n + 1))

/-- The sum of the first `n + 1` members, in order, over `a`. -/
def sumTo (a : EReal) (f : ℕ → EReal) : ℕ → EReal
  | 0 => a + f 0
  | n + 1 => sumTo a f n + f (n + 1)

/-- The contents of a two-dimensional array at any two numbers, anything outside. -/
def at2 {α : Type} [Nonempty α] {m n : ℕ} (X : (⟨2, ![m, n]⟩ : Shape).Idx → α) (r c : ℕ) : α :=
  if h : r < m ∧ c < n then X (ix2 ⟨r, h.1⟩ ⟨c, h.2⟩) else Classical.arbitrary α

/-- An entry at an index's coordinates. -/
theorem at2_of {α : Type} [Nonempty α] {m n : ℕ} (X : (⟨2, ![m, n]⟩ : Shape).Idx → α) (i : (⟨2, ![m, n]⟩ : Shape).Idx) :
    at2 X (i 0).val (i 1).val = X i := by
  have h : (i 0).val < m ∧ (i 1).val < n := ⟨(i 0).isLt, (i 1).isLt⟩
  rw [at2, dif_pos h]
  exact congrArg X (funext fun a => by fin_cases a <;> rfl)

/-- A load through a unit-stride rectangle of a two-dimensional buffer reads the numbers counted from its offset. -/
theorem readAt_at2 {sig : RefSig} {κ : Kind} {sp : Space} {m n : ℕ} {e : EltTy} (v : View sig κ sp ⟨2, ![m, n]⟩ e)
    (off size : Fin 2 → ℕ) (inb : ∀ a, off a + size a ≤ (⟨2, ![m, n]⟩ : Shape).size a) (f : v.ty.Contents (Elt Ideal))
    (j : (⟨2, size⟩ : Shape).Idx) :
    v.readAt (Elt Ideal) (Rect.unit (s := ⟨2, ![m, n]⟩) off size inb).toLoadRect f j
      = at2 (v.read (Elt Ideal) f) (off 0 + (j 0).val) (off 1 + (j 1).val) := by
  have h := at2_of (v.read (Elt Ideal) f) ((Rect.unit (s := ⟨2, ![m, n]⟩) off size inb).idx j)
  have e0 := Rect.idx_unit_val (s := ⟨2, ![m, n]⟩) off size inb j 0
  have e1 := Rect.idx_unit_val (s := ⟨2, ![m, n]⟩) off size inb j 1
  rw [e0, e1] at h
  exact h.symm

/-- A row of a two-dimensional array, at any number. -/
def rowAt {m n : ℕ} (X : (⟨2, ![m, n]⟩ : Shape).Idx → EReal) (r : ℕ) (c : Fin n) : EReal := at2 X r c

/-- A running maximum is the supremum. -/
theorem maxTo_eq_sup (f : ℕ → EReal) (n : ℕ) : maxTo f n = (Finset.range (n + 1)).sup f := by
  induction n with
  | zero => simp [maxTo]
  | succ n ih => rw [maxTo, ih, Finset.range_add_one (n := n + 1), Finset.sup_insert, sup_comm]

/-- A running sum is the sum. -/
theorem sumTo_eq_sum (a : EReal) (f : ℕ → EReal) (n : ℕ) : sumTo a f n = a + ∑ q ∈ Finset.range (n + 1), f q := by
  induction n with
  | zero => simp [sumTo]
  | succ n ih => rw [sumTo, ih, Finset.sum_range_succ _ (n + 1), add_assoc]

/-- The columns of a row of `128 * k`, taken lane by lane. -/
theorem sup_lanes (f : ℕ → EReal) (k : ℕ) :
    (Finset.univ.sup fun l : Fin 128 => maxTo (fun q => f (128 * q + l.val)) k) = Finset.univ.sup fun c : Fin (128 * (k + 1)) => f c.val := by
  apply le_antisymm
  · refine Finset.sup_le fun l _ => ?_
    rw [maxTo_eq_sup]
    refine Finset.sup_le fun q hq => ?_
    have hq := Finset.mem_range.mp hq
    have hl := l.isLt
    exact Finset.le_sup (f := fun c : Fin (128 * (k + 1)) => f c.val) (Finset.mem_univ ⟨128 * q + l.val, by omega⟩)
  · refine Finset.sup_le fun c _ => ?_
    have hc := c.isLt
    obtain ⟨l, hl⟩ : ∃ l : Fin 128, l.val = c.val % 128 := ⟨⟨c.val % 128, Nat.mod_lt _ (by decide)⟩, rfl⟩
    have e : c.val = 128 * (c.val / 128) + l.val := by rw [hl]; exact (Nat.div_add_mod c.val 128).symm
    rw [e]
    refine le_trans ?_ (Finset.le_sup (f := fun l : Fin 128 => maxTo (fun q => f (128 * q + l.val)) k) (Finset.mem_univ l))
    simp only [maxTo_eq_sup]
    exact Finset.le_sup (f := fun q => f (128 * q + l.val)) (Finset.mem_range.mpr (by omega))

/-- The same for the sum. -/
theorem sum_lanes (f : ℕ → EReal) (k : ℕ) :
    (∑ l : Fin 128, ∑ q ∈ Finset.range k, f (128 * q + l.val)) = ∑ c : Fin (128 * k), f c.val := by
  rw [Finset.sum_comm]
  induction k with
  | zero => simp
  | succ k ih =>
    rw [Finset.sum_range_succ, ih, ← Finset.sum_range (fun c => f c), ← Finset.sum_range (fun c => f c), Nat.mul_succ,
      Finset.sum_range_add, ← Finset.sum_range (fun c => f (128 * k + c))]

/-- A fold of the maximum from the least value is the supremum. -/
theorem fold_max {n : ℕ} (f : Fin n → EReal) : Finset.univ.fold max (Ideal.ofBits .f32 4286578688#32) f = Finset.univ.sup f := by
  have h : Ideal.ofBits .f32 4286578688#32 = (⊥ : EReal) := by
    simp [Ideal.ofBits, Ideal.ieee]
  rw [h]; rfl

/-- Two lists of pieces of one array, joined. -/
theorem piecesOf_append {Val : EltTy → Type} {s : Shape} {e : EltTy} (G : s.Idx → Val e) (L L' : List (View.Piece Val s e))
    (h : View.PiecesOf G L) (h' : View.PiecesOf G L') : View.PiecesOf G (L ++ L') := by
  induction L with
  | nil => exact h'
  | cons p L ih => exact ⟨h.1, ih h.2⟩

end Cert.Spec
-- ==== Proof.T1Words.lean ====
module

public import proofs.«01_k».proof.Proof.Gen.KernelIdeal.Loops
public import proofs.«01_k».proof.Proof.Spec

@[expose] public section

set_option maxRecDepth 16384

noncomputable section

namespace Cert.KernelIdeal.Val

open Cert.KernelIdeal.Gen Cert.Spec Idealize.ShloMosaic

/-! The first loop: 32 rows a trip, each row's codes, scale and the scale spread over the lanes. -/

/-- What the codes' buffer holds after the first loop, of the block `X`. -/
def gCodes (X : S256x7168.Idx → EReal) : S256x7168.Idx → EReal := fun y => codes (rowAt X (y 0).val) (y 1)

/-- What the scales' buffer holds. -/
def gScale (X : S256x7168.Idx → EReal) : S256x1.Idx → EReal := fun y => scaleK (amax (rowAt X (y 0).val))

/-- What the scratch of spread scales holds. -/
def gSpread (X : S256x7168.Idx → EReal) : S256x128.Idx → EReal := fun y => scaleK (amax (rowAt X (y 0).val))

/-- A trip's first row. -/
theorem trip_row (k : Fin k0_t1_loop.trips) : BitVec.toNat (Scalar.indexCast (Scalar.muli (Scf.iv 0#32 1#32 k.val) 32#32)) = 32 * k.val :=
  congrFun (k0_off57_eq k) 0

section
variable (arg1 : Memref sig .tc .vmem S256x7168 .bf16) (X : arg1.view.ty.Contents (Elt Ideal)) (k : Fin k0_t1_loop.trips)

/-- The running maximum over the 56 column chunks, lane by lane. -/
theorem t1_max (j : S32x128.Idx) :
    trip_k0_t1.sl.v791 (F := Ideal) arg1 X k j
      = maxTo (fun q => mag (at2 (arg1.view.read (Elt Ideal) X) (32 * k.val + (j 0).val) (128 * q + (j 1).val))) 55 := by
  simp only [maxTo]
  sl_unfold_words
  pointwise [readAt_at2, trip_row]
  rfl

/-- A row's scaled largest magnitude. -/
theorem t1_amax (j : S32x1.Idx) :
    trip_k0_t1.sl.v795 (F := Ideal) arg1 X k j = amax (rowAt (arg1.view.read (Elt Ideal) X) (32 * k.val + (j 0).val)) := by
  have h : trip_k0_t1.sl.v793 (F := Ideal) arg1 X k j
      = Finset.univ.sup fun l : Fin 128 => maxTo (fun q => mag (at2 (arg1.view.read (Elt Ideal) X) (32 * k.val + (j 0).val) (128 * q + l.val))) 55 := by
    unfold trip_k0_t1.sl.v793 trip_k0_t1.sl.v792
    pointwise [t1_max]
    exact fold_max _
  rw [sup_lanes (fun c => mag (at2 (arg1.view.read (Elt Ideal) X) (32 * k.val + (j 0).val) c))] at h
  exact congrArg (· * bits 991054117#32) h

/-- A row's scale. -/
theorem t1_scale (j : S32x1.Idx) :
    trip_k0_t1.sl.v883 (F := Ideal) arg1 X k j = scaleK (amax (rowAt (arg1.view.read (Elt Ideal) X) (32 * k.val + (j 0).val))) := by
  have h : trip_k0_t1.sl.v883 (F := Ideal) arg1 X k j = scaleK (trip_k0_t1.sl.v795 (F := Ideal) arg1 X k j) := rfl
  rw [h, t1_amax]

/-- A row's reciprocal scale, on every lane. -/
theorem t1_inv (j : S32x128.Idx) :
    trip_k0_t1.sl.v899 (F := Ideal) arg1 X k j = invK (amax (rowAt (arg1.view.read (Elt Ideal) X) (32 * k.val + (j 0).val))) := by
  have h (j : S32x1.Idx) : trip_k0_t1.sl.v888 (F := Ideal) arg1 X k j = invK (trip_k0_t1.sl.v795 (F := Ideal) arg1 X k j) := rfl
  unfold trip_k0_t1.sl.v899 trip_k0_t1.sl.v898 trip_k0_t1.sl.v897
  pointwise [h, t1_amax]

/-- A row's scale, on every lane. -/
theorem t1_spread (j : S32x128.Idx) :
    trip_k0_t1.sl.v896 (F := Ideal) arg1 X k j = scaleK (amax (rowAt (arg1.view.read (Elt Ideal) X) (32 * k.val + (j 0).val))) := by
  unfold trip_k0_t1.sl.v896 trip_k0_t1.sl.v892 trip_k0_t1.sl.v891
  pointwise [t1_scale]

/-- A chunk of codes is that chunk of the block's codes. -/
theorem t1_piece (off : Fin 2 → ℕ) (inb : ∀ a, off a + S32x128.size a ≤ S256x7168.size a) (h : off 0 = 32 * k.val) (w : S32x128.Idx → EReal)
    (hw : ∀ x, w x = code (shapeCast S32x128 (arg1.view.readAt (Elt Ideal) (Rect.unit (s := S256x7168) off S32x128.size inb).toLoadRect X)
        shapeCasts_S32x128_S32x128 x) (trip_k0_t1.sl.v899 (F := Ideal) arg1 X k x)) (x : S32x128.Idx) :
    w x = gCodes (arg1.view.read (Elt Ideal) X) ((Rect.unit (s := S256x7168) off S32x128.size inb).emb x) := by
  have e0 := Rect.idx_unit_val (s := S256x7168) off S32x128.size inb x 0
  have hs (f : S32x128.Idx → EReal) : shapeCast S32x128 f shapeCasts_S32x128_S32x128 x = f x := by rw [shapeCast_self]
  refine (hw x).trans ((congrArg (code · (trip_k0_t1.sl.v899 (F := Ideal) arg1 X k x)) (hs _)).trans ?_)
  rw [t1_inv, View.readAt_eq_ld, View.ld]
  unfold gCodes codes
  have e : (((Rect.unit (s := S256x7168) off S32x128.size inb).emb x) 0).val = 32 * k.val + (x 0).val := by rw [← h]; exact e0
  rw [e]
  congr 1
  show _ = at2 (arg1.view.read (Elt Ideal) X) (32 * k.val + (x 0).val) (((Rect.unit (s := S256x7168) off S32x128.size inb).emb x) 1).val
  rw [← e, at2_of]
  rfl

end

end Cert.KernelIdeal.Val
-- ==== Proof.T1.lean ====
module

public import proofs.«01_k».proof.Proof.T1Words
public import proofs.«01_k».proof.Proof.Gen.KernelIdeal.Frame.Runs

@[expose] public section

set_option maxRecDepth 16384

noncomputable section

namespace Cert.KernelIdeal.Val

open Cert.KernelIdeal.Gen Cert.Spec Idealize.ShloMosaic

section
variable (𝒱 : Variants) (c : Dev nD) (bd : Option 𝒱.V) (i : grid0.Coords) (arg1 : Memref sig .tc .vmem S256x7168 .bf16) (harg1 : arg1.IsWhole) (arg2 : Memref sig .tc .vmem S256x4608 .bf16) (harg2 : arg2.IsWhole) (arg3 : Memref sig .tc .vmem S4608x7168 .fp8e4m3) (harg3 : arg3.IsWhole) (arg4 : Memref sig .tc .vmem S1x4608 .f32) (harg4 : arg4.IsWhole) (arg5 : Memref sig .tc .vmem S1x4608 .f32) (harg5 : arg5.IsWhole) (arg6 : Memref sig .tc .vmem S1x4608 .f32) (harg6 : arg6.IsWhole) (arg7 : Memref sig .tc .vmem S256x4608 .bf16) (harg7 : arg7.IsWhole) (arg8 : Memref sig .tc .vmem S256x7168 .fp8e4m3) (harg8 : arg8.IsWhole) (arg9 : Memref sig .tc .vmem S256x1 .f32) (harg9 : arg9.IsWhole) (arg10 : Memref sig .tc .vmem S256x4608 .fp8e4m3) (harg10 : arg10.IsWhole) (arg11 : Memref sig .tc .vmem S256x1 .f32) (harg11 : arg11.IsWhole) (arg12 : Memref sig .tc .vmem S256x4608 .f32) (harg12 : arg12.IsWhole) (arg13 : Memref sig .tc .vmem S256x128 .f32) (harg13 : arg13.IsWhole) (arg14 : Memref sig .tc .vmem S256x128 .f32) (harg14 : arg14.IsWhole)
  (X : arg1.view.ty.Contents (Elt Ideal))

attribute [local irreducible] trip_k0_t1.sl.v899 in
/-- The codes a trip stores. -/
theorem t1_codes (k : Fin k0_t1_loop.trips) :
    View.PiecesOf (gCodes (arg1.view.read (Elt Ideal) X)) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).1 := by
  unfold tripL_k0_t1 trip_k0_t1
  dsimp only
  simp only [View.PiecesOf]
  iterate 56
    refine And.intro ?_ ?_
    · refine t1_piece arg1 X k _ _ ?_ _ ?_
      · exact trip_row k
      · intro x; rfl
  trivial

/-- The scales a trip stores, and the same spread over the lanes. -/
theorem t1_scales (k : Fin k0_t1_loop.trips) :
    View.PiecesOf (gScale (arg1.view.read (Elt Ideal) X)) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.1
      ∧ View.PiecesOf (gSpread (arg1.view.read (Elt Ideal) X)) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.2 := by
  unfold tripL_k0_t1 trip_k0_t1
  dsimp only
  simp only [View.PiecesOf]
  refine ⟨⟨fun x => ?_, trivial⟩, ⟨fun x => ?_, trivial⟩⟩
  · refine (t1_scale arg1 X k x).trans ?_
    exact congrArg (fun r => scaleK (amax (rowAt (arg1.view.read (Elt Ideal) X) r)))
      ((congrArg (· + (x 0).val) (trip_row k).symm).trans (Rect.idx_unit_val (s := S256x1) (k0_off57 k) S32x1.size (k0_off57_inb k) x 0).symm)
  · refine (t1_spread arg1 X k x).trans ?_
    exact congrArg (fun r => scaleK (amax (rowAt (arg1.view.read (Elt Ideal) X) r)))
      ((congrArg (· + (x 0).val) (trip_row k).symm).trans (Rect.idx_unit_val (s := S256x128) (k0_off58 k) S32x128.size (k0_off58_inb k) x 0).symm)

/-- After `k` trips, every piece stored is a piece of the block's codes, scales and spread scales. -/
theorem t1_all (k : ℕ) (hk : k ≤ k0_t1_loop.trips) :
    View.PiecesOf (gCodes (arg1.view.read (Elt Ideal) X)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).1
      ∧ View.PiecesOf (gScale (arg1.view.read (Elt Ideal) X)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.1
      ∧ View.PiecesOf (gSpread (arg1.view.read (Elt Ideal) X)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.2 := by
  induction k with
  | zero => exact ⟨trivial, trivial, trivial⟩
  | succ k ih =>
    obtain ⟨h1, h2, h3⟩ := ih (by omega)
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨k, by omega⟩
    obtain ⟨s2, s3⟩ := t1_scales 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨k, by omega⟩
    rw [e]
    exact ⟨piecesOf_append _ _ _ (t1_codes 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨k, by omega⟩) h1, piecesOf_append _ _ _ s2 h2, piecesOf_append _ _ _ s3 h3⟩

/-- The codes' buffer after the loop. -/
theorem t1_read8 (f : arg8.view.ty.Contents (Elt Ideal)) :
    arg8.view.read (Elt Ideal) (arg8.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X (Scf.trips k0_t1_loop.lb k0_t1_loop.ub k0_t1_loop.st)).1)
      = gCodes (arg1.view.read (Elt Ideal) X) := by
  funext y
  have hc := View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X (Scf.trips k0_t1_loop.lb k0_t1_loop.ub k0_t1_loop.st)).1
    S32x128.size (by sl_kernel_rfl) y
  rw [View.read_writes_apply_eq_canon _ _ _ _ hc]
  exact View.canon_apply_of_pieces _ _ (t1_all 𝒱 c bd i arg1 harg1 arg2 harg2 arg3 harg3 arg4 harg4 arg5 harg5 arg6 harg6 arg7 harg7 arg8 harg8 arg9 harg9 arg10 harg10 arg11 harg11 arg12 harg12 arg13 harg13 arg14 harg14 X _ (le_refl _)).1.mem y hc

/-- The scales' buffer after the loop. -/
theorem t1_read9 (f : arg9.view.ty.Contents (Elt Ideal)) :
    arg9.view.read (Elt Ideal) (arg9.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X (Scf.trips k0_t1_loop.lb k0_t1_loop.ub k0_t1_loop.st)).2.1)
      = gScale (arg1.view.read (Elt Ideal) X) := by
  funext y
  have hc := View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X (Scf.trips k0_t1_loop.lb k0_t1_loop.ub k0_t1_loop.st)).2.1
    S32x1.size (by sl_kernel_rfl) y
  rw [View.read_writes_apply_eq_canon _ _ _ _ hc]
  exact View.canon_apply_of_pieces _ _ (t1_all 𝒱 c bd i arg1 harg1 arg2 harg2 arg3 harg3 arg4 harg4 arg5 harg5 arg6 harg6 arg7 harg7 arg8 harg8 arg9 harg9 arg10 harg10 arg11 harg11 arg12 harg12 arg13 harg13 arg14 harg14 X _ (le_refl _)).2.1.mem y hc

/-- The scratch of spread scales after the loop. -/
theorem t1_read14 (f : arg14.view.ty.Contents (Elt Ideal)) :
    arg14.view.read (Elt Ideal) (arg14.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X (Scf.trips k0_t1_loop.lb k0_t1_loop.ub k0_t1_loop.st)).2.2)
      = gSpread (arg1.view.read (Elt Ideal) X) := by
  funext y
  have hc := View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X (Scf.trips k0_t1_loop.lb k0_t1_loop.ub k0_t1_loop.st)).2.2
    S32x128.size (by sl_kernel_rfl) y
  rw [View.read_writes_apply_eq_canon _ _ _ _ hc]
  exact View.canon_apply_of_pieces _ _ (t1_all 𝒱 c bd i arg1 harg1 arg2 harg2 arg3 harg3 arg4 harg4 arg5 harg5 arg6 harg6 arg7 harg7 arg8 harg8 arg9 harg9 arg10 harg10 arg11 harg11 arg12 harg12 arg13 harg13 arg14 harg14 X _ (le_refl _)).2.2.mem y hc

end

end Cert.KernelIdeal.Val
-- ==== Proof.T2Words.lean ====
module

public import proofs.«01_k».proof.Proof.T1

@[expose] public section

set_option maxRecDepth 16384

noncomputable section

namespace Cert.KernelIdeal.Val

open Cert.KernelIdeal.Gen Cert.Spec Idealize.ShloMosaic

/-! The second loop: 32 rows a trip, each row's normalised product, second normalisation, codes and scale. -/

/-- The reciprocal root of the mean square whose sum is given lane by lane. -/
def rLanes (f : Fin 128 → EReal) : EReal :=
  FloatOps.rsqrt (F := Ideal) (φ := .f32) ((∑ l, f l) * ((1 / 4608 : ℝ) : EReal) + bits 897988541#32)

/-- The first output at row `r` and column `n`, of the products `Y`, their sums of squares `S`, the gains `G` and the residual `R`. -/
def hAt (Y : S256x4608.Idx → EReal) (S : S256x128.Idx → EReal) (G : S1x4608.Idx → EReal) (R : S256x4608.Idx → EReal) (r n : ℕ) : EReal :=
  at2 Y r n * rLanes (fun l => at2 S r l.val) * (bits 1065353216#32 + at2 G 0 n) + at2 R r n

/-- The reciprocal root of the mean square of the first output's row. -/
def rH (Y : S256x4608.Idx → EReal) (S : S256x128.Idx → EReal) (G : S1x4608.Idx → EReal) (R : S256x4608.Idx → EReal) (r : ℕ) : EReal :=
  rLanes fun l => ∑ q ∈ Finset.range 36, hAt Y S G R r (128 * q + l.val) * hAt Y S G R r (128 * q + l.val)

/-- The second normalisation at row `r` and column `n`. -/
def zAt (Y : S256x4608.Idx → EReal) (S : S256x128.Idx → EReal) (G : S1x4608.Idx → EReal) (R : S256x4608.Idx → EReal) (P : S1x4608.Idx → EReal)
    (r n : ℕ) : EReal :=
  hAt Y S G R r n * rH Y S G R r * (bits 1065353216#32 + at2 P 0 n)

section
variable (arg2 : Memref sig .tc .vmem S256x4608 .bf16) (X2 : arg2.view.ty.Contents (Elt Ideal))
  (arg5 : Memref sig .tc .vmem S1x4608 .f32) (X5 : arg5.view.ty.Contents (Elt Ideal))
  (arg6 : Memref sig .tc .vmem S1x4608 .f32) (X6 : arg6.view.ty.Contents (Elt Ideal))
  (arg7 : Memref sig .tc .vmem S256x4608 .bf16)
  (arg12 : Memref sig .tc .vmem S256x4608 .f32) (X12 : arg12.view.ty.Contents (Elt Ideal))
  (arg13 : Memref sig .tc .vmem S256x128 .f32) (X13 : arg13.view.ty.Contents (Elt Ideal))
  (k : Fin k0_t2_loop.trips)

/-- A trip's first row. -/
theorem trip_row2 : BitVec.toNat (Scalar.indexCast (Scalar.muli (Scf.iv 0#32 1#32 k.val) 32#32)) = 32 * k.val :=
  congrFun (k0_off60_eq k) 0

/-- The kernel's named reciprocal of the row's length. -/
theorem inv_n : Named.named (F := Ideal) κ "inv_n" (φ := .f32) 962825785#32 = ((1 / 4608 : ℝ) : EReal) :=
  IdealRules.named_const.ideal_named_scalar _ _ _ _ rfl

/-- The factor of a normalisation whose squares are summed lane by lane, on every lane. -/
theorem spread_apply (V : FVec Ideal S32x128 .f32) (x : S32x128.Idx) :
    k0_pay93 (F := Ideal) V x = rLanes fun l => V (ix2 (x 0) l) := by
  unfold k0_pay93
  pointwise [inv_n]
  rfl

/-- The first normalisation's factor, on every lane. -/
theorem t2_r (x : S32x128.Idx) :
    trip_k0_t2.sl.r (F := Ideal) arg13 X13 k x = rLanes fun l => at2 (arg13.view.read (Elt Ideal) X13) (32 * k.val + (x 0).val) l.val := by
  unfold trip_k0_t2.sl.r
  rw [spread_apply]
  refine congrArg rLanes (funext fun l => ?_)
  refine (readAt_at2 arg13.view (k0_off59 k) S32x128.size (k0_off59_inb k) X13 (ix2 (x 0) l)).trans ?_
  exact congrArg₂ (at2 (arg13.view.read (Elt Ideal) X13)) (congrArg (· + (x 0).val) (trip_row2 k)) (Nat.zero_add _)

/-- One chunk of the first output. -/
def hC (D : FVec Ideal S32x128 .f32) (Y : FVec Ideal S32x128 .f32) (G : FVec Ideal S1x128 .f32) (R : FVec Ideal S32x128 .bf16) : FVec Ideal S32x128 .bf16 :=
  truncf .bf16 (addf (mulf (mulf Y D) (broadcastTo S32x128 (addf (broadcast S1x128 (Scalar.ofBits (F := Ideal) .f32 0x3F800000#32))
    (shapeCast S1x128 G shapeCasts_S1x128_S1x128)) broadcasts_S1x128_S32x128))
    (extf .f32 (shapeCast S32x128 R shapeCasts_S32x128_S32x128) bitsLt_bf16_f32)) bitsLt_bf16_f32

/-- An entry of the first output's column block. -/
theorem hC_apply (D : FVec Ideal S32x128 .f32) (Y : FVec Ideal S32x128 .f32) (G : FVec Ideal S1x128 .f32) (R : FVec Ideal S32x128 .bf16) (x : S32x128.Idx) :
    hC D Y G R x = Y x * D x * (bits 1065353216#32 + G (ix2 0 (x 1))) + R x := by
  unfold hC
  pointwise

/-- One chunk of the second normalisation. -/
def zC (D : FVec Ideal S32x128 .f32) (H : FVec Ideal S32x128 .bf16) (G : FVec Ideal S1x128 .f32) : FVec Ideal S32x128 .f32 :=
  mulf (mulf (extf .f32 (shapeCast S32x128 H shapeCasts_S32x128_S32x128) bitsLt_bf16_f32) D)
    (broadcastTo S32x128 (addf (broadcast S1x128 (Scalar.ofBits (F := Ideal) .f32 0x3F800000#32)) (shapeCast S1x128 G shapeCasts_S1x128_S1x128))
      broadcasts_S1x128_S32x128)

/-- An entry of the second normalisation's column block. -/
theorem zC_apply (D : FVec Ideal S32x128 .f32) (H : FVec Ideal S32x128 .bf16) (G : FVec Ideal S1x128 .f32) (x : S32x128.Idx) :
    zC D H G x = H x * D x * (bits 1065353216#32 + G (ix2 0 (x 1))) := by
  unfold zC
  pointwise

end

end Cert.KernelIdeal.Val
-- ==== Proof.T2.lean ====
module

public import proofs.«01_k».proof.Proof.T2Words

@[expose] public section

set_option maxRecDepth 16384

noncomputable section

namespace Cert.KernelIdeal.Val

open Cert.KernelIdeal.Gen Cert.Spec Idealize.ShloMosaic

/-! One trip of the second loop: the pieces it stores. -/

/-- A running maximum from zero. -/
def maxN (f : ℕ → EReal) : ℕ → EReal
  | 0 => 0
  | n + 1 => max (maxN f n) (f n)

section
variable (arg2 : Memref sig .tc .vmem S256x4608 .bf16) (X2 : arg2.view.ty.Contents (Elt Ideal))
  (arg5 : Memref sig .tc .vmem S1x4608 .f32) (X5 : arg5.view.ty.Contents (Elt Ideal))
  (arg6 : Memref sig .tc .vmem S1x4608 .f32) (X6 : arg6.view.ty.Contents (Elt Ideal))
  (arg7 : Memref sig .tc .vmem S256x4608 .bf16)
  (arg12 : Memref sig .tc .vmem S256x4608 .f32) (X12 : arg12.view.ty.Contents (Elt Ideal))
  (arg13 : Memref sig .tc .vmem S256x128 .f32) (X13 : arg13.view.ty.Contents (Elt Ideal))
  (k : Fin k0_t2_loop.trips)

/-- The first output as the trip's inputs give it. -/
abbrev hh (r n : ℕ) : EReal :=
  hAt (arg12.view.read (Elt Ideal) X12) (arg13.view.read (Elt Ideal) X13) (arg5.view.read (Elt Ideal) X5) (arg2.view.read (Elt Ideal) X2) r n

/-- The second normalisation as the trip's inputs give it. -/
abbrev zz (r n : ℕ) : EReal :=
  zAt (arg12.view.read (Elt Ideal) X12) (arg13.view.read (Elt Ideal) X13) (arg5.view.read (Elt Ideal) X5) (arg2.view.read (Elt Ideal) X2)
    (arg6.view.read (Elt Ideal) X6) r n

/-- A chunk of the first output as the trip names it. -/
abbrev mh (o12 : Fin 2 → ℕ) (i12 : ∀ a, o12 a + S32x128.size a ≤ S256x4608.size a) (o2 : Fin 2 → ℕ) (i2 : ∀ a, o2 a + S32x128.size a ≤ S256x4608.size a)
    (o5 : Fin 2 → ℕ) (i5 : ∀ a, o5 a + S1x128.size a ≤ S1x4608.size a) : FVec Ideal S32x128 .bf16 :=
  hC (k0_pay93 (F := Ideal) (arg13.view.readAt (Elt Ideal) (Rect.unit (s := S256x128) (k0_off59 k) S32x128.size (k0_off59_inb k)).toLoadRect X13))
    (arg12.view.readAt (Elt Ideal) (Rect.unit (s := S256x4608) o12 S32x128.size i12).toLoadRect X12)
    (arg5.view.readAt (Elt Ideal) (Rect.unit (s := S1x4608) o5 S1x128.size i5).toLoadRect X5)
    (arg2.view.readAt (Elt Ideal) (Rect.unit (s := S256x4608) o2 S32x128.size i2).toLoadRect X2)

/-- Where a chunk from column `n` on must lie. -/
abbrev At (n : ℕ) (o : Fin 2 → ℕ) : Prop := o 0 = 32 * k.val ∧ o 1 = n

/-- A column chunk of the first output, as the loop computes it, entry by entry. -/
theorem t2_h (o12 : Fin 2 → ℕ) (i12 : ∀ a, o12 a + S32x128.size a ≤ S256x4608.size a) (o2 : Fin 2 → ℕ) (i2 : ∀ a, o2 a + S32x128.size a ≤ S256x4608.size a)
    (o5 : Fin 2 → ℕ) (i5 : ∀ a, o5 a + S1x128.size a ≤ S1x4608.size a) (n : ℕ) (e12 : At k n o12) (e2 : At k n o2) (e5 : o5 0 = 0 ∧ o5 1 = n)
    (x : S32x128.Idx) :
    mh arg2 X2 arg5 X5 arg12 X12 arg13 X13 k o12 i12 o2 i2 o5 i5 x
      = hh arg2 X2 arg5 X5 arg12 X12 arg13 X13 (32 * k.val + (x 0).val) (n + (x 1).val) := by
  have a12 := readAt_at2 arg12.view o12 S32x128.size i12 X12 x
  have a2 := readAt_at2 arg2.view o2 S32x128.size i2 X2 x
  have a5 := readAt_at2 arg5.view o5 S1x128.size i5 X5 (ix2 0 (x 1))
  rw [e12.1, e12.2] at a12
  rw [e2.1, e2.2] at a2
  rw [e5.1, e5.2] at a5
  unfold mh hh hAt
  have d := t2_r arg13 X13 k x
  unfold trip_k0_t2.sl.r at d
  rw [hC_apply, d]
  exact congrArg₂ (· + ·) (congrArg₂ (· * ·) (congrArg (· * _) a12) (congrArg (bits 1065353216#32 + ·) a5)) a2

/-- What the first output's buffer holds, as the trip's inputs give it. -/
def gH : S256x4608.Idx → EReal := fun y => hh arg2 X2 arg5 X5 arg12 X12 arg13 X13 (y 0).val (y 1).val

/-- A stored chunk of the first output is that chunk. -/
theorem t2_hpiece (off : Fin 2 → ℕ) (inb : ∀ a, off a + S32x128.size a ≤ S256x4608.size a) (w : S32x128.Idx → EReal)
    (o12 : Fin 2 → ℕ) (i12 : ∀ a, o12 a + S32x128.size a ≤ S256x4608.size a) (o2 : Fin 2 → ℕ) (i2 : ∀ a, o2 a + S32x128.size a ≤ S256x4608.size a)
    (o5 : Fin 2 → ℕ) (i5 : ∀ a, o5 a + S1x128.size a ≤ S1x4608.size a) (hw : w = mh arg2 X2 arg5 X5 arg12 X12 arg13 X13 k o12 i12 o2 i2 o5 i5)
    (e0 : off 0 = 32 * k.val) (e12 : At k (off 1) o12) (e2 : At k (off 1) o2) (e5 : o5 0 = 0 ∧ o5 1 = off 1) (x : S32x128.Idx) :
    w x = gH arg2 X2 arg5 X5 arg12 X12 arg13 X13 ((Rect.unit (s := S256x4608) off S32x128.size inb).emb x) := by
  have i0 := Rect.idx_unit_val (s := S256x4608) off S32x128.size inb x 0
  have i1 := Rect.idx_unit_val (s := S256x4608) off S32x128.size inb x 1
  rw [hw, t2_h arg2 X2 arg5 X5 arg12 X12 arg13 X13 k o12 i12 o2 i2 o5 i5 (off 1) e12 e2 e5]
  rw [e0] at i0
  exact congrArg₂ (hh arg2 X2 arg5 X5 arg12 X12 arg13 X13) i0.symm i1.symm

attribute [local irreducible] k0_pay93 in
/-- The chunks of the first output a trip stores. -/
theorem t2_hpieces : View.PiecesOf (gH arg2 X2 arg5 X5 arg12 X12 arg13 X13) (trip_k0_t2.sl.HW_arg7_36 (F := Ideal) arg2 arg5 arg12 arg13 X2 X5 X12 X13 k) := by
  unfold trip_k0_t2.sl.HW_arg7_36
  simp only [View.PiecesOf]
  iterate 36
    refine And.intro ?_ ?_
    · refine t2_hpiece arg2 X2 arg5 X5 arg12 X12 arg13 X13 k _ _ _ ?_ ?_ ?_ ?_ ?_ ?_ ?_ ?_ ?_ ?_ ?_
      pick_goal 7
      · rfl
      · exact trip_row2 k
      · exact ⟨trip_row2 k, rfl⟩
      · exact ⟨trip_row2 k, rfl⟩
      · exact ⟨rfl, rfl⟩
  trivial

/-- One step of the running sum of squares of the first output. -/
theorem t2_sum (n : ℕ) (P w : S32x128.Idx → EReal)
    (o12 : Fin 2 → ℕ) (i12 : ∀ a, o12 a + S32x128.size a ≤ S256x4608.size a) (o2 : Fin 2 → ℕ) (i2 : ∀ a, o2 a + S32x128.size a ≤ S256x4608.size a)
    (o5 : Fin 2 → ℕ) (i5 : ∀ a, o5 a + S1x128.size a ≤ S1x4608.size a)
    (hw : w = addf (F := Ideal) (φ := .f32) P (mulf (extf (F := Ideal) .f32 (mh arg2 X2 arg5 X5 arg12 X12 arg13 X13 k o12 i12 o2 i2 o5 i5) bitsLt_bf16_f32)
      (extf (F := Ideal) .f32 (mh arg2 X2 arg5 X5 arg12 X12 arg13 X13 k o12 i12 o2 i2 o5 i5) bitsLt_bf16_f32)))
    (e12 : At k (128 * n) o12) (e2 : At k (128 * n) o2) (e5 : o5 0 = 0 ∧ o5 1 = 128 * n)
    (ih : ∀ x : S32x128.Idx, P x = ∑ q ∈ Finset.range n, hh arg2 X2 arg5 X5 arg12 X12 arg13 X13 (32 * k.val + (x 0).val) (128 * q + (x 1).val)
      * hh arg2 X2 arg5 X5 arg12 X12 arg13 X13 (32 * k.val + (x 0).val) (128 * q + (x 1).val)) (x : S32x128.Idx) :
    w x = ∑ q ∈ Finset.range (n + 1), hh arg2 X2 arg5 X5 arg12 X12 arg13 X13 (32 * k.val + (x 0).val) (128 * q + (x 1).val)
      * hh arg2 X2 arg5 X5 arg12 X12 arg13 X13 (32 * k.val + (x 0).val) (128 * q + (x 1).val) := by
  have e := t2_h arg2 X2 arg5 X5 arg12 X12 arg13 X13 k o12 i12 o2 i2 o5 i5 (128 * n) e12 e2 e5 x
  rw [Finset.sum_range_succ, ← ih x, ← e, hw]
  rfl

/-- The second factor is the spread reciprocal root of a running sum. -/
theorem t2_r6_eq :
    trip_k0_t2.sl.r_6 (F := Ideal) arg2 arg5 arg12 arg13 X2 X5 X12 X13 k = k0_pay93 (F := Ideal) (addf (addf (trip_k0_t2.sl.v1203 (F := Ideal) arg2 arg5 arg12 arg13 X2 X5 X12 X13 k) (mulf (extf .f32 (trip_k0_t2.sl.v1218 (F := Ideal) arg2 arg5 arg12 arg13 X2 X5 X12 X13 k) bitsLt_bf16_f32)
        (extf .f32 (trip_k0_t2.sl.v1218 (F := Ideal) arg2 arg5 arg12 arg13 X2 X5 X12 X13 k) bitsLt_bf16_f32)))
      (mulf (extf .f32 (mh arg2 X2 arg5 X5 arg12 X12 arg13 X13 k (k0_off95 k) (k0_off95_inb k) (k0_off95 k) (k0_off95_inb k) ![0, 4480] inb_S1x4608_S1x128_0_4480) bitsLt_bf16_f32)
        (extf .f32 (mh arg2 X2 arg5 X5 arg12 X12 arg13 X13 k (k0_off95 k) (k0_off95_inb k) (k0_off95 k) (k0_off95_inb k) ![0, 4480] inb_S1x4608_S1x128_0_4480) bitsLt_bf16_f32))) := rfl

attribute [local irreducible] k0_pay93 in
/-- The second normalisation's factor, on every lane. -/
theorem t2_r6 (x : S32x128.Idx) :
    trip_k0_t2.sl.r_6 (F := Ideal) arg2 arg5 arg12 arg13 X2 X5 X12 X13 k x
      = rH (arg12.view.read (Elt Ideal) X12) (arg13.view.read (Elt Ideal) X13) (arg5.view.read (Elt Ideal) X5) (arg2.view.read (Elt Ideal) X2)
          (32 * k.val + (x 0).val) := by
  obtain ⟨V, hV⟩ : ∃ V : FVec Ideal S32x128 .f32, trip_k0_t2.sl.r_6 (F := Ideal) arg2 arg5 arg12 arg13 X2 X5 X12 X13 k = k0_pay93 (F := Ideal) V
      ∧ ∀ x : S32x128.Idx, V x = ∑ q ∈ Finset.range 36, hh arg2 X2 arg5 X5 arg12 X12 arg13 X13 (32 * k.val + (x 0).val) (128 * q + (x 1).val)
        * hh arg2 X2 arg5 X5 arg12 X12 arg13 X13 (32 * k.val + (x 0).val) (128 * q + (x 1).val) := by
    refine ⟨addf (addf (trip_k0_t2.sl.v1203 (F := Ideal) arg2 arg5 arg12 arg13 X2 X5 X12 X13 k) (mulf (extf .f32 (trip_k0_t2.sl.v1218 (F := Ideal) arg2 arg5 arg12 arg13 X2 X5 X12 X13 k) bitsLt_bf16_f32)
        (extf .f32 (trip_k0_t2.sl.v1218 (F := Ideal) arg2 arg5 arg12 arg13 X2 X5 X12 X13 k) bitsLt_bf16_f32)))
      (mulf (extf .f32 (mh arg2 X2 arg5 X5 arg12 X12 arg13 X13 k (k0_off95 k) (k0_off95_inb k) (k0_off95 k) (k0_off95_inb k) ![0, 4480] inb_S1x4608_S1x128_0_4480) bitsLt_bf16_f32)
        (extf .f32 (mh arg2 X2 arg5 X5 arg12 X12 arg13 X13 k (k0_off95 k) (k0_off95_inb k) (k0_off95 k) (k0_off95_inb k) ![0, 4480] inb_S1x4608_S1x128_0_4480) bitsLt_bf16_f32)), t2_r6_eq arg2 X2 arg5 X5 arg12 X12 arg13 X13 k, ?_⟩
    iterate 36
      refine t2_sum arg2 X2 arg5 X5 arg12 X12 arg13 X13 k _ ?_ _ ?_ ?_ ?_ ?_ ?_ ?_ ?_ ?_ ?_ ?_ ?_
      pick_goal 8
      · rfl
      · exact ⟨trip_row2 k, rfl⟩
      · exact ⟨trip_row2 k, rfl⟩
      · exact ⟨rfl, rfl⟩
    intro x
    rw [Finset.sum_range_zero]
    exact Ideal.ofBits_zero_f32
  rw [hV.1, spread_apply]
  exact congrArg rLanes (funext fun l => hV.2 _)

/-- A chunk of the second normalisation as the trip names it: it re-reads the first output's buffer. -/
abbrev mz (o : Fin 2 → ℕ) (io : ∀ a, o a + S32x128.size a ≤ S256x4608.size a) (o6 : Fin 2 → ℕ) (i6 : ∀ a, o6 a + S1x128.size a ≤ S1x4608.size a) : FVec Ideal S32x128 .f32 :=
  zC (trip_k0_t2.sl.r_6 (F := Ideal) arg2 arg5 arg12 arg13 X2 X5 X12 X13 k)
    (arg7.view.readCov (trip_k0_t2.sl.HW_arg7_36 (F := Ideal) arg2 arg5 arg12 arg13 X2 X5 X12 X13 k) (Rect.unit (s := S256x4608) o S32x128.size io).toLoadRect)
    (arg6.view.readAt (Elt Ideal) (Rect.unit (s := S1x4608) o6 S1x128.size i6).toLoadRect X6)

/-- That the trip has stored a chunk at the offset `o`. -/
abbrev Stored (o : Fin 2 → ℕ) (io : ∀ a, o a + S32x128.size a ≤ S256x4608.size a) : Prop :=
  ∃ w, (⟨Rect.unit (s := S256x4608) o S32x128.size io, w⟩ : View.Piece (Elt Ideal) S256x4608 .bf16) ∈ trip_k0_t2.sl.HW_arg7_36 (F := Ideal) arg2 arg5 arg12 arg13 X2 X5 X12 X13 k

/-- A column chunk of the second normalisation, as the loop computes it, entry by entry. -/
theorem t2_z (o : Fin 2 → ℕ) (io : ∀ a, o a + S32x128.size a ≤ S256x4608.size a) (o6 : Fin 2 → ℕ) (i6 : ∀ a, o6 a + S1x128.size a ≤ S1x4608.size a) (n : ℕ) (hs : Stored arg2 X2 arg5 X5 arg12 X12 arg13 X13 k o io) (e : At k n o) (e6 : o6 0 = 0 ∧ o6 1 = n) (x : S32x128.Idx) :
    mz arg2 X2 arg5 X5 arg6 X6 arg7 arg12 X12 arg13 X13 k o io o6 i6 x = zz arg2 X2 arg5 X5 arg6 X6 arg12 X12 arg13 X13 (32 * k.val + (x 0).val) (n + (x 1).val) := by
  have a6 := readAt_at2 arg6.view o6 S1x128.size i6 X6 (ix2 0 (x 1))
  rw [e6.1, e6.2] at a6
  have i0 := Rect.idx_unit_val (s := S256x4608) o S32x128.size io x 0
  have i1 := Rect.idx_unit_val (s := S256x4608) o S32x128.size io x 1
  rw [e.1] at i0
  rw [e.2] at i1
  have hh' : arg7.view.readCov (trip_k0_t2.sl.HW_arg7_36 (F := Ideal) arg2 arg5 arg12 arg13 X2 X5 X12 X13 k) (Rect.unit (s := S256x4608) o S32x128.size io).toLoadRect x
      = hh arg2 X2 arg5 X5 arg12 X12 arg13 X13 (32 * k.val + (x 0).val) (n + (x 1).val) := by
    obtain ⟨w, hw⟩ := hs
    rw [View.readCov_eq_canon']
    refine (View.canon_apply_of_pieces (gH arg2 X2 arg5 X5 arg12 X12 arg13 X13) _ (t2_hpieces arg2 X2 arg5 X5 arg12 X12 arg13 X13 k).mem
      ((Rect.unit (s := S256x4608) o S32x128.size io).idx x) ⟨_, hw, LoadRect.idx_mem _ _⟩).trans ?_
    exact congrArg₂ (hh arg2 X2 arg5 X5 arg12 X12 arg13 X13) i0 i1
  unfold mz zz zAt
  rw [zC_apply, hh', t2_r6]
  exact congrArg (_ * ·) (congrArg (bits 1065353216#32 + ·) a6)

/-- One step of the running maximum of the second normalisation's magnitudes. -/
theorem t2_max (n : ℕ) (P w : S32x128.Idx → EReal) (o : Fin 2 → ℕ) (io : ∀ a, o a + S32x128.size a ≤ S256x4608.size a) (o6 : Fin 2 → ℕ) (i6 : ∀ a, o6 a + S1x128.size a ≤ S1x4608.size a)
    (hw : w = maximumf (F := Ideal) (φ := .f32) P (absf (mz arg2 X2 arg5 X5 arg6 X6 arg7 arg12 X12 arg13 X13 k o io o6 i6)))
    (hs : Stored arg2 X2 arg5 X5 arg12 X12 arg13 X13 k o io) (e : At k (128 * n) o) (e6 : o6 0 = 0 ∧ o6 1 = 128 * n)
    (ih : ∀ x : S32x128.Idx, P x = maxN (fun q => mag (zz arg2 X2 arg5 X5 arg6 X6 arg12 X12 arg13 X13 (32 * k.val + (x 0).val) (128 * q + (x 1).val))) n) (x : S32x128.Idx) :
    w x = maxN (fun q => mag (zz arg2 X2 arg5 X5 arg6 X6 arg12 X12 arg13 X13 (32 * k.val + (x 0).val) (128 * q + (x 1).val))) (n + 1) := by
  have e := t2_z arg2 X2 arg5 X5 arg6 X6 arg7 arg12 X12 arg13 X13 k o io o6 i6 (128 * n) hs e e6 x
  rw [maxN, ← ih x, ← e, hw]
  rfl

attribute [local irreducible] k0_pay93 in
/-- The running maximum over the 36 column chunks, lane by lane. -/
theorem t2_lanes (x : S32x128.Idx) :
    trip_k0_t2.sl.v1721 (F := Ideal) arg2 arg5 arg6 arg7 arg12 arg13 X2 X5 X6 X12 X13 k x
      = maxN (fun q => mag (zz arg2 X2 arg5 X5 arg6 X6 arg12 X12 arg13 X13 (32 * k.val + (x 0).val) (128 * q + (x 1).val))) 36 := by
  revert x
  iterate 36
    refine t2_max arg2 X2 arg5 X5 arg6 X6 arg7 arg12 X12 arg13 X13 k _ ?_ _ ?_ ?_ ?_ ?_ ?_ ?_ ?_ ?_ ?_
    pick_goal 6
    · rfl
    · refine ⟨?_, ?_⟩
      pick_goal 2
      · unfold trip_k0_t2.sl.HW_arg7_36
        with_reducible repeat' first | exact List.mem_cons_self | apply List.mem_cons_of_mem
    · exact ⟨trip_row2 k, rfl⟩
    · exact ⟨rfl, rfl⟩
  intro x
  exact Ideal.ofBits_zero_f32

end

end Cert.KernelIdeal.Val
-- ==== Proof.T2Loop.lean ====
module

public import proofs.«01_k».proof.Proof.T2
public import proofs.«01_k».proof.Proof.Gen.KernelIdeal.Frame.Runs

@[expose] public section

set_option maxRecDepth 16384

noncomputable section

namespace Cert.KernelIdeal.Val

open Cert.KernelIdeal.Gen Cert.Spec Idealize.ShloMosaic

/-! The second loop: the codes and scales it stores, and its three buffers after the last trip. -/

/-- A magnitude is not negative. -/
theorem mag_nonneg (v : EReal) : 0 ≤ mag v := by
  show 0 ≤ max v (-v)
  rcases le_total 0 v with h | h
  · exact le_max_of_le_left h
  · exact le_max_of_le_right (EReal.neg_nonneg.mpr h)

/-- A running maximum that starts from zero, of members that are not negative. -/
theorem maxN_succ (f : ℕ → EReal) (h : ∀ n, 0 ≤ f n) (n : ℕ) : maxN f (n + 1) = maxTo f n := by
  induction n with
  | zero => exact max_eq_right (h 0)
  | succ n ih => rw [maxN, ih, maxTo]

section
variable (arg2 : Memref sig .tc .vmem S256x4608 .bf16) (X2 : arg2.view.ty.Contents (Elt Ideal))
  (arg5 : Memref sig .tc .vmem S1x4608 .f32) (X5 : arg5.view.ty.Contents (Elt Ideal))
  (arg6 : Memref sig .tc .vmem S1x4608 .f32) (X6 : arg6.view.ty.Contents (Elt Ideal))
  (arg7 : Memref sig .tc .vmem S256x4608 .bf16)
  (arg12 : Memref sig .tc .vmem S256x4608 .f32) (X12 : arg12.view.ty.Contents (Elt Ideal))
  (arg13 : Memref sig .tc .vmem S256x128 .f32) (X13 : arg13.view.ty.Contents (Elt Ideal))
  (k : Fin k0_t2_loop.trips)

/-- A row of the second normalisation as the trip's inputs give it. -/
abbrev zR (r : ℕ) (c : Fin 4608) : EReal := zz arg2 X2 arg5 X5 arg6 X6 arg12 X12 arg13 X13 r c.val

/-- The codes of the second normalisation. -/
def gZ (y : S256x4608.Idx) : EReal := codes (zR arg2 X2 arg5 X5 arg6 X6 arg12 X12 arg13 X13 (y 0).val) (y 1)

/-- The scales of the second normalisation. -/
def gZs (y : S256x1.Idx) : EReal := scaleK (amax (zR arg2 X2 arg5 X5 arg6 X6 arg12 X12 arg13 X13 (y 0).val))

/-- The same maximum, from the first chunk on. -/
theorem t2_lanes' (x : S32x128.Idx) :
    trip_k0_t2.sl.v1721 (F := Ideal) arg2 arg5 arg6 arg7 arg12 arg13 X2 X5 X6 X12 X13 k x
      = maxTo (fun q => mag (zz arg2 X2 arg5 X5 arg6 X6 arg12 X12 arg13 X13 (32 * k.val + (x 0).val) (128 * q + (x 1).val))) 35 :=
  (t2_lanes arg2 X2 arg5 X5 arg6 X6 arg7 arg12 X12 arg13 X13 k x).trans (maxN_succ _ (fun _ => mag_nonneg _) 35)

/-- A row's scaled largest magnitude. -/
theorem t2_amax (j : S32x1.Idx) :
    trip_k0_t2.sl.v1725 (F := Ideal) arg2 arg5 arg6 arg7 arg12 arg13 X2 X5 X6 X12 X13 k j = amax (zR arg2 X2 arg5 X5 arg6 X6 arg12 X12 arg13 X13 (32 * k.val + (j 0).val)) := by
  have h : trip_k0_t2.sl.v1723 (F := Ideal) arg2 arg5 arg6 arg7 arg12 arg13 X2 X5 X6 X12 X13 k j
      = Finset.univ.sup fun l : Fin 128 => maxTo (fun q => mag (zz arg2 X2 arg5 X5 arg6 X6 arg12 X12 arg13 X13 (32 * k.val + (j 0).val) (128 * q + l.val))) 35 := by
    unfold trip_k0_t2.sl.v1723 trip_k0_t2.sl.v1722
    pointwise [t2_lanes']
    exact fold_max _
  rw [sup_lanes (fun c => mag (zz arg2 X2 arg5 X5 arg6 X6 arg12 X12 arg13 X13 (32 * k.val + (j 0).val) c))] at h
  exact congrArg (· * bits 991054117#32) h

/-- A row's scale. -/
theorem t2_scale (j : S32x1.Idx) :
    trip_k0_t2.sl.v1813 (F := Ideal) arg2 arg5 arg6 arg7 arg12 arg13 X2 X5 X6 X12 X13 k j = scaleK (amax (zR arg2 X2 arg5 X5 arg6 X6 arg12 X12 arg13 X13 (32 * k.val + (j 0).val))) := by
  have h : trip_k0_t2.sl.v1813 (F := Ideal) arg2 arg5 arg6 arg7 arg12 arg13 X2 X5 X6 X12 X13 k j = scaleK (trip_k0_t2.sl.v1725 (F := Ideal) arg2 arg5 arg6 arg7 arg12 arg13 X2 X5 X6 X12 X13 k j) := rfl
  rw [h, t2_amax]

/-- A row's reciprocal scale, on every lane. -/
theorem t2_inv (j : S32x128.Idx) :
    trip_k0_t2.sl.v1822 (F := Ideal) arg2 arg5 arg6 arg7 arg12 arg13 X2 X5 X6 X12 X13 k j = invK (amax (zR arg2 X2 arg5 X5 arg6 X6 arg12 X12 arg13 X13 (32 * k.val + (j 0).val))) := by
  have h (j : S32x1.Idx) : trip_k0_t2.sl.v1818 (F := Ideal) arg2 arg5 arg6 arg7 arg12 arg13 X2 X5 X6 X12 X13 k j = invK (trip_k0_t2.sl.v1725 (F := Ideal) arg2 arg5 arg6 arg7 arg12 arg13 X2 X5 X6 X12 X13 k j) := rfl
  unfold trip_k0_t2.sl.v1822 trip_k0_t2.sl.v1821
  pointwise [h, t2_amax]

/-- The codes of a chunk as the trip computes them. -/
def codeC (Z I : FVec Ideal S32x128 .f32) : FVec Ideal S32x128 .fp8e4m3 :=
  truncf .fp8e4m3 (minimumf (broadcast S32x128 (bits 1138753536#32)) (maximumf (broadcast S32x128 (bits 3286237184#32)) (mulf Z I))) bitsLt_fp8e4m3_f32

/-- A chunk of codes is that chunk of the second normalisation's codes. -/
theorem t2_piece (w : S32x128.Idx → EReal) (o : Fin 2 → ℕ) (io : ∀ a, o a + S32x128.size a ≤ S256x4608.size a) (o6 : Fin 2 → ℕ) (i6 : ∀ a, o6 a + S1x128.size a ≤ S1x4608.size a)
    (hw : w = codeC (mz arg2 X2 arg5 X5 arg6 X6 arg7 arg12 X12 arg13 X13 k o io o6 i6) (trip_k0_t2.sl.v1822 (F := Ideal) arg2 arg5 arg6 arg7 arg12 arg13 X2 X5 X6 X12 X13 k))
    (hs : Stored arg2 X2 arg5 X5 arg12 X12 arg13 X13 k o io) (e : o 0 = 32 * k.val) (e6 : o6 0 = 0 ∧ o6 1 = o 1) (x : S32x128.Idx) :
    w x = gZ arg2 X2 arg5 X5 arg6 X6 arg12 X12 arg13 X13 ((Rect.unit (s := S256x4608) o S32x128.size io).emb x) := by
  have i0 := Rect.idx_unit_val (s := S256x4608) o S32x128.size io x 0
  have i1 := Rect.idx_unit_val (s := S256x4608) o S32x128.size io x 1
  rw [e] at i0
  have hx : w x = code (mz arg2 X2 arg5 X5 arg6 X6 arg7 arg12 X12 arg13 X13 k o io o6 i6 x) (trip_k0_t2.sl.v1822 (F := Ideal) arg2 arg5 arg6 arg7 arg12 arg13 X2 X5 X6 X12 X13 k x) := by rw [hw]; rfl
  rw [hx, t2_inv, t2_z arg2 X2 arg5 X5 arg6 X6 arg7 arg12 X12 arg13 X13 k o io o6 i6 (o 1) hs ⟨e, rfl⟩ e6 x]
  unfold gZ codes
  have i0 : (((Rect.unit (s := S256x4608) o S32x128.size io).emb x) 0).val = 32 * k.val + (x 0).val := i0
  have i1 : (((Rect.unit (s := S256x4608) o S32x128.size io).emb x) 1).val = o 1 + (x 1).val := i1
  rw [i0]
  unfold zR
  rw [i1]

end

section
variable (𝒱 : Variants) (c : Dev nD) (bd : Option 𝒱.V) (i : grid0.Coords) (arg1 : Memref sig .tc .vmem S256x7168 .bf16) (harg1 : arg1.IsWhole) (arg2 : Memref sig .tc .vmem S256x4608 .bf16) (harg2 : arg2.IsWhole) (arg3 : Memref sig .tc .vmem S4608x7168 .fp8e4m3) (harg3 : arg3.IsWhole) (arg4 : Memref sig .tc .vmem S1x4608 .f32) (harg4 : arg4.IsWhole) (arg5 : Memref sig .tc .vmem S1x4608 .f32) (harg5 : arg5.IsWhole) (arg6 : Memref sig .tc .vmem S1x4608 .f32) (harg6 : arg6.IsWhole) (arg7 : Memref sig .tc .vmem S256x4608 .bf16) (harg7 : arg7.IsWhole) (arg8 : Memref sig .tc .vmem S256x7168 .fp8e4m3) (harg8 : arg8.IsWhole) (arg9 : Memref sig .tc .vmem S256x1 .f32) (harg9 : arg9.IsWhole) (arg10 : Memref sig .tc .vmem S256x4608 .fp8e4m3) (harg10 : arg10.IsWhole) (arg11 : Memref sig .tc .vmem S256x1 .f32) (harg11 : arg11.IsWhole) (arg12 : Memref sig .tc .vmem S256x4608 .f32) (harg12 : arg12.IsWhole) (arg13 : Memref sig .tc .vmem S256x128 .f32) (harg13 : arg13.IsWhole) (arg14 : Memref sig .tc .vmem S256x128 .f32) (harg14 : arg14.IsWhole)
  (X2 : arg2.view.ty.Contents (Elt Ideal)) (X5 : arg5.view.ty.Contents (Elt Ideal)) (X6 : arg6.view.ty.Contents (Elt Ideal))
  (X12 : arg12.view.ty.Contents (Elt Ideal)) (X13 : arg13.view.ty.Contents (Elt Ideal))

section
variable (k : Fin k0_t2_loop.trips) (Y7 : arg7.view.ty.Contents (Elt Ideal)) (Y10 : arg10.view.ty.Contents (Elt Ideal)) (Y11 : arg11.view.ty.Contents (Elt Ideal))

attribute [local irreducible] k0_pay93 trip_k0_t2.sl.v1822 trip_k0_t2.sl.r_6 trip_k0_t2.sl.HW_arg7_36 in
/-- The codes a trip stores. -/
theorem t2_codes : View.PiecesOf (gZ arg2 X2 arg5 X5 arg6 X6 arg12 X12 arg13 X13) (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 k Y7 Y10 Y11).2.1 := by
  unfold tripL_k0_t2 trip_k0_t2
  dsimp only
  simp only [View.PiecesOf]
  iterate 36
    refine And.intro ?_ ?_
    · refine t2_piece arg2 X2 arg5 X5 arg6 X6 arg7 arg12 X12 arg13 X13 k _ _ _ ?_ ?_ ?_ ?_ ?_ ?_
      pick_goal 3
      · rfl
      · refine ⟨?_, ?_⟩
        pick_goal 2
        · unfold trip_k0_t2.sl.HW_arg7_36
          with_reducible repeat' first | exact List.mem_cons_self | apply List.mem_cons_of_mem
      · exact trip_row2 k
      · exact ⟨rfl, rfl⟩
  trivial

/-- The chunks of the first output a trip stores. -/
theorem t2_outs : View.PiecesOf (gH arg2 X2 arg5 X5 arg12 X12 arg13 X13) (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 k Y7 Y10 Y11).1 := by
  unfold tripL_k0_t2 trip_k0_t2
  exact t2_hpieces arg2 X2 arg5 X5 arg12 X12 arg13 X13 k

/-- The scales a trip stores. -/
theorem t2_scales : View.PiecesOf (gZs arg2 X2 arg5 X5 arg6 X6 arg12 X12 arg13 X13) (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 k Y7 Y10 Y11).2.2 := by
  unfold tripL_k0_t2 trip_k0_t2
  dsimp only
  simp only [View.PiecesOf]
  refine ⟨fun x => ?_, trivial⟩
  refine (t2_scale arg2 X2 arg5 X5 arg6 X6 arg7 arg12 X12 arg13 X13 k x).trans ?_
  exact congrArg (fun r => scaleK (amax (zR arg2 X2 arg5 X5 arg6 X6 arg12 X12 arg13 X13 r)))
      ((congrArg (· + (x 0).val) (trip_row2 k).symm).trans (Rect.idx_unit_val (s := S256x1) (k0_off96 k) S32x1.size (k0_off96_inb k) x 0).symm)

end

section
variable (G7 : arg7.view.ty.Contents (Elt Ideal)) (G10 : arg10.view.ty.Contents (Elt Ideal)) (G11 : arg11.view.ty.Contents (Elt Ideal))

/-- After `k` trips, every piece stored is a piece of the first output, of its codes and of their scales. -/
theorem t2_all (k : ℕ) (hk : k ≤ k0_t2_loop.trips) :
    View.PiecesOf (gH arg2 X2 arg5 X5 arg12 X12 arg13 X13) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 k).1
      ∧ View.PiecesOf (gZ arg2 X2 arg5 X5 arg6 X6 arg12 X12 arg13 X13) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 k).2.1
      ∧ View.PiecesOf (gZs arg2 X2 arg5 X5 arg6 X6 arg12 X12 arg13 X13) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 k).2.2 := by
  induction k with
  | zero => exact ⟨trivial, trivial, trivial⟩
  | succ k ih =>
    obtain ⟨h1, h2, h3⟩ := ih (by omega)
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 ⟨k, by omega⟩
    rw [e]
    exact ⟨piecesOf_append _ _ _ (t2_outs 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 ⟨k, by omega⟩ _ _ _) h1, piecesOf_append _ _ _ (t2_codes 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 ⟨k, by omega⟩ _ _ _) h2,
      piecesOf_append _ _ _ (t2_scales 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 ⟨k, by omega⟩ _ _ _) h3⟩

/-- The first output's buffer after the loop. -/
theorem t2_read7 (f : arg7.view.ty.Contents (Elt Ideal)) :
    arg7.view.read (Elt Ideal) (arg7.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 (Scf.trips k0_t2_loop.lb k0_t2_loop.ub k0_t2_loop.st)).1) = gH arg2 X2 arg5 X5 arg12 X12 arg13 X13 := by
  funext y
  have hc := View.cover_of_tiledL (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 (Scf.trips k0_t2_loop.lb k0_t2_loop.ub k0_t2_loop.st)).1 S32x128.size (by sl_kernel_rfl) y
  rw [View.read_writes_apply_eq_canon _ _ _ _ hc]
  exact View.canon_apply_of_pieces _ _ (t2_all 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 _ (le_refl _)).1.mem y hc

/-- The codes' buffer after the loop. -/
theorem t2_read10 (f : arg10.view.ty.Contents (Elt Ideal)) :
    arg10.view.read (Elt Ideal) (arg10.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 (Scf.trips k0_t2_loop.lb k0_t2_loop.ub k0_t2_loop.st)).2.1) = gZ arg2 X2 arg5 X5 arg6 X6 arg12 X12 arg13 X13 := by
  funext y
  have hc := View.cover_of_tiledL (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 (Scf.trips k0_t2_loop.lb k0_t2_loop.ub k0_t2_loop.st)).2.1 S32x128.size (by sl_kernel_rfl) y
  rw [View.read_writes_apply_eq_canon _ _ _ _ hc]
  exact View.canon_apply_of_pieces _ _ (t2_all 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 _ (le_refl _)).2.1.mem y hc

/-- The scales' buffer after the loop. -/
theorem t2_read11 (f : arg11.view.ty.Contents (Elt Ideal)) :
    arg11.view.read (Elt Ideal) (arg11.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 (Scf.trips k0_t2_loop.lb k0_t2_loop.ub k0_t2_loop.st)).2.2) = gZs arg2 X2 arg5 X5 arg6 X6 arg12 X12 arg13 X13 := by
  funext y
  have hc := View.cover_of_tiledL (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 (Scf.trips k0_t2_loop.lb k0_t2_loop.ub k0_t2_loop.st)).2.2 S32x1.size (by sl_kernel_rfl) y
  rw [View.read_writes_apply_eq_canon _ _ _ _ hc]
  exact View.canon_apply_of_pieces _ _ (t2_all 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X5 X6 X12 X13 G7 G10 G11 _ (le_refl _)).2.2.mem y hc

end

end

end Cert.KernelIdeal.Val
-- ==== Proof.MainWords.lean ====
module

public import proofs.«01_k».proof.Proof.T1

@[expose] public section

set_option maxRecDepth 16384

noncomputable section

namespace Cert.KernelIdeal.Val

open Cert.KernelIdeal.Gen Cert.Spec Idealize.ShloMosaic

/-! The products with the weights: one 128-column chunk at a time, read at one index. -/

/-- The scaled product at row `r` and column `n`, of the block `X`, the weights and their scales. -/
def yAt (X : S256x7168.Idx → EReal) (W : S4608x7168.Idx → EReal) (Ws : S1x4608.Idx → EReal) (r n : ℕ) : EReal :=
  (∑ k : Fin 7168, codes (rowAt X r) k * at2 W n k.val) * scaleK (amax (rowAt X r)) * at2 Ws 0 n

/-- What the scratch of products holds. -/
def gY (X : S256x7168.Idx → EReal) (W : S4608x7168.Idx → EReal) (Ws : S1x4608.Idx → EReal) : S256x4608.Idx → EReal :=
  fun y => yAt X W Ws (y 0).val (y 1).val

/-- One chunk of products: a slice of a dot product times the spread scales times a chunk of the weights' scales. -/
def yC (A : FVec Ideal S256x7168 .fp8e4m3) (S : FVec Ideal S256x128 .f32) (B : FVec Ideal S512x7168 .fp8e4m3) (V : FVec Ideal S1x128 .f32)
    (os : Fin 2 → ℕ) (hs : S256x512.Slices os S256x128) : FVec Ideal S256x128 .f32 :=
  mulf (mulf (extractStridedSlice S256x128 os (k0_pay247 (F := Ideal) A B) hs) S)
    (broadcastTo S256x128 (shapeCast S1x128 V shapeCasts_S1x128_S1x128) broadcasts_S1x128_S256x128)

/-- A dot product at an index is the sum over the contracted axis. -/
theorem dot_apply (A : FVec Ideal S256x7168 .fp8e4m3) (B : FVec Ideal S512x7168 .fp8e4m3) (r : Fin 256) (n : Fin 512) :
    k0_pay247 (F := Ideal) A B (ix2 r n) = ∑ k : Fin 7168, A (ix2 r k) * B (ix2 n k) := by
  unfold k0_pay247
  pointwise

/-- An entry of a scaled column block of the product. -/
theorem yC_apply (A : FVec Ideal S256x7168 .fp8e4m3) (S : FVec Ideal S256x128 .f32) (B : FVec Ideal S512x7168 .fp8e4m3) (V : FVec Ideal S1x128 .f32)
    (os : Fin 2 → ℕ) (hs : S256x512.Slices os S256x128) (x : S256x128.Idx) (n : Fin 512) (h0 : os 0 = 0) (hn : os 1 + (x 1).val = n.val) :
    yC A S B V os hs x = (∑ k : Fin 7168, A (ix2 (x 0) k) * B (ix2 n k)) * S x * V (ix2 0 (x 1)) := by
  unfold yC
  pointwise [dot_apply]
  have e0 (h : os 0 + (x 0).val < 256) : (⟨os 0 + (x 0).val, h⟩ : Fin 256) = x 0 := Fin.ext ((congrArg (· + (x 0).val) h0).trans (Nat.zero_add _))
  have e1 (h : os 1 + (x 1).val < 512) : (⟨os 1 + (x 1).val, h⟩ : Fin 512) = n := Fin.ext hn
  simp only [e0, e1]

end Cert.KernelIdeal.Val
-- ==== Proof.Main.lean ====
module

public import proofs.«01_k».proof.Proof.MainWords
public import proofs.«01_k».proof.Proof.RunV

@[expose] public section

set_option maxRecDepth 16384

noncomputable section

namespace Cert.KernelIdeal.Val

open Cert.KernelIdeal.Gen Cert.Spec Idealize.ShloMosaic

/-! The products' scratch and the sums of squares the block's straight line leaves. -/

section
variable (c : Dev nD) (i : grid0.Coords) (arg1 : Memref sig .tc .vmem S256x7168 .bf16) (harg1 : arg1.IsWhole) (arg2 : Memref sig .tc .vmem S256x4608 .bf16) (harg2 : arg2.IsWhole) (arg3 : Memref sig .tc .vmem S4608x7168 .fp8e4m3) (harg3 : arg3.IsWhole) (arg4 : Memref sig .tc .vmem S1x4608 .f32) (harg4 : arg4.IsWhole) (arg5 : Memref sig .tc .vmem S1x4608 .f32) (harg5 : arg5.IsWhole) (arg6 : Memref sig .tc .vmem S1x4608 .f32) (harg6 : arg6.IsWhole) (arg7 : Memref sig .tc .vmem S256x4608 .bf16) (harg7 : arg7.IsWhole) (arg8 : Memref sig .tc .vmem S256x7168 .fp8e4m3) (harg8 : arg8.IsWhole) (arg9 : Memref sig .tc .vmem S256x1 .f32) (harg9 : arg9.IsWhole) (arg10 : Memref sig .tc .vmem S256x4608 .fp8e4m3) (harg10 : arg10.IsWhole) (arg11 : Memref sig .tc .vmem S256x1 .f32) (harg11 : arg11.IsWhole) (arg12 : Memref sig .tc .vmem S256x4608 .f32) (harg12 : arg12.IsWhole) (arg13 : Memref sig .tc .vmem S256x128 .f32) (harg13 : arg13.IsWhole) (arg14 : Memref sig .tc .vmem S256x128 .f32) (harg14 : arg14.IsWhole)
  (x0 : Vec Ideal S256x7168 .bf16) (x2 : Vec Ideal S4608x7168 .fp8e4m3) (x3 : Vec Ideal S1x4608 .f32)
  (f7 : arg8.view.ty.Contents (Elt Ideal)) (fs2 : arg14.view.ty.Contents (Elt Ideal))

/-- The codes the straight line loads. -/
theorem main_v5 : runV.sl.v5 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 f7 = gCodes x0 := by
  unfold runV.sl.v5
  rw [View.readAt_eq_ld, t1_read8, harg1.read_unread, View.ld_unit_zero (by funext a; fin_cases a <;> rfl)]

/-- The spread scales the straight line loads. -/
theorem main_v11 : runV.sl.v11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 fs2 = gSpread x0 := by
  unfold runV.sl.v11
  rw [View.readAt_eq_ld, t1_read14, harg1.read_unread, View.ld_unit_zero (by funext a; fin_cases a <;> rfl)]

/-- One chunk of the straight line's products, from its column `n` on. -/
theorem main_chunk (o3 : Fin 2 → ℕ) (h3 : ∀ a, o3 a + S512x7168.size a ≤ S4608x7168.size a) (os : Fin 2 → ℕ) (hs : S256x512.Slices os S256x128)
    (o4 : Fin 2 → ℕ) (h4 : ∀ a, o4 a + S1x128.size a ≤ S1x4608.size a) (n : ℕ)
    (e0 : os 0 = 0) (e1 : o3 1 = 0) (e2 : o4 0 = 0) (e3 : o3 0 + os 1 = n) (e4 : o4 1 = n) (b : os 1 + 128 ≤ 512) (x : S256x128.Idx) :
    yC (runV.sl.v5 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 f7) (runV.sl.v11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 fs2)
        (arg3.view.readAt (Elt Ideal) (Rect.unit (s := S4608x7168) o3 S512x7168.size h3).toLoadRect (harg3.unread x2))
        (arg4.view.readAt (Elt Ideal) (Rect.unit (s := S1x4608) o4 S1x128.size h4).toLoadRect (harg4.unread x3)) os hs x
      = yAt x0 x2 x3 (x 0).val (n + (x 1).val) := by
  have hx : (x 1).val < 128 := (x 1).isLt
  rw [yC_apply _ _ _ _ os hs x ⟨os 1 + (x 1).val, by omega⟩ e0 rfl, main_v5, main_v11]
  unfold yAt
  refine congrArg₂ (· * ·) (congrArg (· * scaleK (amax (rowAt x0 (x 0).val))) (Finset.sum_congr rfl fun k _ =>
    congrArg (codes (rowAt x0 (x 0).val) k * ·) ?_)) ?_
  · refine (readAt_at2 arg3.view o3 S512x7168.size h3 (harg3.unread x2) (ix2 ⟨os 1 + (x 1).val, by omega⟩ k)).trans ?_
    rw [harg3.read_unread]
    show at2 x2 (o3 0 + (os 1 + (x 1).val)) (o3 1 + k.val) = _
    rw [e1, Nat.zero_add, ← Nat.add_assoc, e3]
  · refine (readAt_at2 arg4.view o4 S1x128.size h4 (harg4.unread x3) (ix2 0 (x 1))).trans ?_
    rw [harg4.read_unread]
    show at2 x3 (o4 0 + 0) (o4 1 + (x 1).val) = _
    rw [e2, e4]

/-- A stored chunk is that chunk of the products. -/
theorem main_piece (off : Fin 2 → ℕ) (inb : ∀ a, off a + S256x128.size a ≤ S256x4608.size a) (w : S256x128.Idx → EReal)
    (o3 : Fin 2 → ℕ) (h3 : ∀ a, o3 a + S512x7168.size a ≤ S4608x7168.size a) (os : Fin 2 → ℕ) (hs : S256x512.Slices os S256x128)
    (o4 : Fin 2 → ℕ) (h4 : ∀ a, o4 a + S1x128.size a ≤ S1x4608.size a)
    (hw : w = shapeCast S256x128 (yC (runV.sl.v5 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 f7) (runV.sl.v11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 fs2)
        (arg3.view.readAt (Elt Ideal) (Rect.unit (s := S4608x7168) o3 S512x7168.size h3).toLoadRect (harg3.unread x2))
        (arg4.view.readAt (Elt Ideal) (Rect.unit (s := S1x4608) o4 S1x128.size h4).toLoadRect (harg4.unread x3)) os hs) shapeCasts_S256x128_S256x128)
    (e : off 0 = 0 ∧ os 0 = 0 ∧ o3 1 = 0 ∧ o4 0 = 0 ∧ o3 0 + os 1 = off 1 ∧ o4 1 = off 1 ∧ os 1 + 128 ≤ 512) (x : S256x128.Idx) :
    w x = gY x0 x2 x3 ((Rect.unit (s := S256x4608) off S256x128.size inb).emb x) := by
  obtain ⟨e0, e1, e2, e3, e4, e5, e6⟩ := e
  rw [hw, shapeCast_self, main_chunk c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 o3 h3 os hs o4 h4 (off 1) e1 e2 e3 e4 e5 e6]
  have i0 := Rect.idx_unit_val (s := S256x4608) off S256x128.size inb x 0
  have i1 := Rect.idx_unit_val (s := S256x4608) off S256x128.size inb x 1
  unfold gY
  refine congrArg₂ (yAt x0 x2 x3) ?_ ?_
  · exact ((congrArg (· + (x 0).val) e0).trans (Nat.zero_add _)).symm.trans i0.symm
  · exact i1.symm

attribute [local irreducible] runV.sl.v5 runV.sl.v11 in
set_option maxHeartbeats 400000 in
/-- The products' scratch holds the products. -/
theorem main_pieces : View.PiecesOf (gY x0 x2 x3) (runV.sl.HS0_36 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2) := by
  unfold runV.sl.HS0_36
  simp only [View.PiecesOf]
  iterate 36
    refine And.intro ?_ ?_
    · refine main_piece c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 _ _ _ ?_ ?_ ?_ ?_ ?_ ?_ ?_ ?_
      pick_goal 7
      · rfl
      pick_goal -1
      · exact ⟨rfl, rfl, rfl, rfl, rfl, rfl, by decide⟩
      all_goals first
        | exact slices_S256x512_o0_0_S256x128
        | exact slices_S256x512_o0_384_S256x128
  trivial

/-- One round of the running sums of squares: four chunks' squares added in order to what the scratch held. -/
def ssC (P y0 y1 y2 y3 : FVec Ideal S256x128 .f32) : FVec Ideal S256x128 .f32 :=
  shapeCast S256x128 (addf (addf (addf (addf P (mulf y0 y0)) (mulf y1 y1)) (mulf y2 y2)) (mulf y3 y3)) shapeCasts_S256x128_S256x128

/-- A chunk of products as the straight line names it. -/
abbrev mainC (o3 : Fin 2 → ℕ) (h3 : ∀ a, o3 a + S512x7168.size a ≤ S4608x7168.size a) (os : Fin 2 → ℕ) (hs : S256x512.Slices os S256x128)
    (o4 : Fin 2 → ℕ) (h4 : ∀ a, o4 a + S1x128.size a ≤ S1x4608.size a) : FVec Ideal S256x128 .f32 :=
  yC (runV.sl.v5 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 f7) (runV.sl.v11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 fs2)
    (arg3.view.readAt (Elt Ideal) (Rect.unit (s := S4608x7168) o3 S512x7168.size h3).toLoadRect (harg3.unread x2))
    (arg4.view.readAt (Elt Ideal) (Rect.unit (s := S1x4608) o4 S1x128.size h4).toLoadRect (harg4.unread x3)) os hs

/-- The square of the product at a lane of chunk `q`. -/
def ySq (x : S256x128.Idx) (q : ℕ) : EReal :=
  yAt x0 x2 x3 (x 0).val (128 * q + (x 1).val) * yAt x0 x2 x3 (x 0).val (128 * q + (x 1).val)

/-- A round of the running sums adds the squares of four chunks. -/
theorem main_round (n : ℕ) (L : List (View.Piece (Elt Ideal) S256x128 .f32)) (w : S256x128.Idx → EReal)
    (inb inb' : ∀ a, (![0, 0] : Fin 2 → ℕ) a + S256x128.size a ≤ S256x128.size a)
    (o3 : Fin 2 → ℕ) (h3 : ∀ a, o3 a + S512x7168.size a ≤ S4608x7168.size a)
    (p0 p1 p2 p3 : Fin 2 → ℕ) (k0 : ∀ a, p0 a + S1x128.size a ≤ S1x4608.size a) (k1 : ∀ a, p1 a + S1x128.size a ≤ S1x4608.size a)
    (k2 : ∀ a, p2 a + S1x128.size a ≤ S1x4608.size a) (k3 : ∀ a, p3 a + S1x128.size a ≤ S1x4608.size a)
    (hw : w = ssC (arg13.view.readCov L (Rect.unit (s := S256x128) ![0, 0] S256x128.size inb').toLoadRect)
      (mainC c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 o3 h3 ![0, 0] slices_S256x512_o0_0_S256x128 p0 k0)
      (mainC c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 o3 h3 ![0, 128] slices_S256x512_o0_128_S256x128 p1 k1)
      (mainC c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 o3 h3 ![0, 256] slices_S256x512_o0_256_S256x128 p2 k2)
      (mainC c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 o3 h3 ![0, 384] slices_S256x512_o0_384_S256x128 p3 k3))
    (e : o3 1 = 0 ∧ o3 0 = 128 * n ∧ (p0 0 = 0 ∧ p1 0 = 0 ∧ p2 0 = 0 ∧ p3 0 = 0)
      ∧ (p0 1 = 128 * n ∧ p1 1 = 128 * (n + 1) ∧ p2 1 = 128 * (n + 2) ∧ p3 1 = 128 * (n + 3)))
    (ih : ∀ x : S256x128.Idx, View.canon L x = ∑ q ∈ Finset.range n, ySq x0 x2 x3 x q) (x : S256x128.Idx) :
    View.canon ((⟨Rect.unit (s := S256x128) ![0, 0] S256x128.size inb, w⟩ : View.Piece (Elt Ideal) S256x128 .f32) :: L) x
      = ∑ q ∈ Finset.range (n + 4), ySq x0 x2 x3 x q := by
  obtain ⟨e1, e0, ⟨z0, z1, z2, z3⟩, c0, c1, c2, c3⟩ := e
  have hz : (![0, 0] : Fin 2 → ℕ) = fun _ => 0 := by funext a; fin_cases a <;> rfl
  rw [View.canon_cons_unit_zero hz, hw, View.readCov_eq_canon']
  unfold ssC
  rw [shapeCast_self]
  have hr : (Rect.unit (s := S256x128) ![0, 0] S256x128.size inb').toLoadRect.idx x = x :=
    funext fun a => Fin.ext ((Rect.idx_unit_val (s := S256x128) ![0, 0] S256x128.size inb' x a).trans
      ((congrArg (· + (x a).val) (congrFun hz a)).trans (Nat.zero_add _)))
  have d0 := main_chunk c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 o3 h3 ![0, 0] slices_S256x512_o0_0_S256x128 p0 k0 (128 * n) rfl e1 z0
    (by rw [e0]; rfl) c0 (by decide) x
  have d1 := main_chunk c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 o3 h3 ![0, 128] slices_S256x512_o0_128_S256x128 p1 k1 (128 * (n + 1)) rfl e1 z1
    (by rw [e0]; rfl) c1 (by decide) x
  have d2 := main_chunk c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 o3 h3 ![0, 256] slices_S256x512_o0_256_S256x128 p2 k2 (128 * (n + 2)) rfl e1 z2
    (by rw [e0]; rfl) c2 (by decide) x
  have d3 := main_chunk c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 o3 h3 ![0, 384] slices_S256x512_o0_384_S256x128 p3 k3 (128 * (n + 3)) rfl e1 z3
    (by rw [e0]; rfl) c3 (by decide) x
  have hp : View.canon L ((Rect.unit (s := S256x128) ![0, 0] S256x128.size inb').toLoadRect.idx x) = _ := (congrArg (View.canon L) hr).trans (ih x)
  rw [Finset.sum_range_succ, Finset.sum_range_succ, Finset.sum_range_succ, Finset.sum_range_succ]
  unfold ySq
  unfold ySq at hp
  rw [← d0, ← d1, ← d2, ← d3, ← hp]
  rfl

attribute [local irreducible] runV.sl.v5 runV.sl.v11 in
set_option maxHeartbeats 400000 in
/-- The running sums end as each row's sum of squares, lane by lane. -/
theorem main_sums (x : S256x128.Idx) :
    View.canon (runV.sl.HS1_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2) x = ∑ q ∈ Finset.range 36, ySq x0 x2 x3 x q := by
  revert x
  iterate 9
    refine main_round c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 _ _ _ _ ?_ ?_ ?_ ?_ ?_ ?_ ?_ ?_ ?_ ?_ ?_ ?_ ?_ ?_
    pick_goal 12
    · rfl
    pick_goal -2
    · exact ⟨rfl, rfl, ⟨rfl, rfl, rfl, rfl⟩, rfl, rfl, rfl, rfl⟩
  intro x
  unfold runV.sl.HS1_1
  rw [View.canon_cons_unit_zero (by funext a; fin_cases a <;> rfl), Finset.sum_range_zero]
  unfold k0_pay246
  pointwise

end

end Cert.KernelIdeal.Val
-- ==== Proof.Rows.lean ====
module

public import proofs.«01_k».proof.Proof.MainWords
public import proofs.«01_k».proof.Proof.T2Words

@[expose] public section

set_option maxRecDepth 16384

noncomputable section

namespace Cert.KernelIdeal.Val

open Cert.KernelIdeal.Gen Cert.Spec Idealize.ShloMosaic

/-! The rows of a block: what the loops' words say row by row is the row functions of `Spec`. -/

/-- A row of the product of a block. -/
def rowY (X : S256x7168.Idx → EReal) (W : S4608x7168.Idx → EReal) (Ws : S1x4608.Idx → EReal) (r : ℕ) : Fin 4608 → EReal :=
  yrow (rowAt X r) (fun n k => at2 W n.val k.val) (fun n => at2 Ws 0 n.val)

/-- A row of the first output of a block. -/
def rowH (X : S256x7168.Idx → EReal) (R : S256x4608.Idx → EReal) (W : S4608x7168.Idx → EReal) (Ws G : S1x4608.Idx → EReal) (r : ℕ) : Fin 4608 → EReal :=
  hrow (rowAt X r) (fun n k => at2 W n.val k.val) (fun n => at2 Ws 0 n.val) (fun n => at2 G 0 n.val) (rowAt R r)

/-- A row of the second normalisation of a block. -/
def rowZ (X : S256x7168.Idx → EReal) (R : S256x4608.Idx → EReal) (W : S4608x7168.Idx → EReal) (Ws G P : S1x4608.Idx → EReal) (r : ℕ) : Fin 4608 → EReal :=
  zrow (rowH X R W Ws G r) (fun n => at2 P 0 n.val)

/-- The sums of squares of the products, lane by lane. -/
def gS (X : S256x7168.Idx → EReal) (W : S4608x7168.Idx → EReal) (Ws : S1x4608.Idx → EReal) : S256x128.Idx → EReal := fun x =>
  ∑ q ∈ Finset.range 36, yAt X W Ws (x 0).val (128 * q + (x 1).val) * yAt X W Ws (x 0).val (128 * q + (x 1).val)

/-- The factor of sums given lane by lane is the factor of the row. -/
theorem rLanes_row (f : ℕ → EReal) :
    rLanes (fun l => ∑ q ∈ Finset.range 36, f (128 * q + l.val) * f (128 * q + l.val)) = rinv fun c => f c.val := by
  unfold rLanes rinv
  rw [sum_lanes (fun c => f c * f c) 36]

/-- An entry inside the array. -/
theorem at2_in {m n : ℕ} (X : (⟨2, ![m, n]⟩ : Shape).Idx → EReal) (r c : ℕ) (hr : r < m) (hc : c < n) : at2 X r c = X (ix2 ⟨r, hr⟩ ⟨c, hc⟩) := by
  rw [at2, dif_pos ⟨hr, hc⟩]

section
variable (X : S256x7168.Idx → EReal) (R : S256x4608.Idx → EReal) (W : S4608x7168.Idx → EReal) (Ws G P : S1x4608.Idx → EReal) (r : ℕ) (hr : r < 256)
include hr

/-- A member of the first output's row. -/
theorem hAt_row (n : Fin 4608) : hAt (gY X W Ws) (gS X W Ws) G R r n.val = rowH X R W Ws G r n := by
  unfold hAt rowH hrow
  have e : (fun l : Fin 128 => at2 (gS X W Ws) r l.val)
      = fun l => ∑ q ∈ Finset.range 36, yAt X W Ws r (128 * q + l.val) * yAt X W Ws r (128 * q + l.val) :=
    funext fun l => at2_in _ r l.val hr l.isLt
  rw [e, rLanes_row (yAt X W Ws r), at2_in (gY X W Ws) r n.val hr n.isLt]
  rfl

/-- The reciprocal root of the first output's row. -/
theorem rH_row : rH (gY X W Ws) (gS X W Ws) G R r = rinv (rowH X R W Ws G r) := by
  unfold rH
  rw [rLanes_row (hAt (gY X W Ws) (gS X W Ws) G R r)]
  exact congrArg rinv (funext fun n => hAt_row X R W Ws G r hr n)

/-- A member of the second normalisation's row. -/
theorem zAt_row (n : Fin 4608) : zAt (gY X W Ws) (gS X W Ws) G R P r n.val = rowZ X R W Ws G P r n := by
  unfold zAt
  rw [hAt_row X R W Ws G r hr n, rH_row X R W Ws G r hr]
  rfl

end

end Cert.KernelIdeal.Val
-- ==== Proof.Block.lean ====
module

public import proofs.«01_k».proof.Proof.RunV
public import proofs.«01_k».proof.Proof.T1
public import proofs.«01_k».proof.Proof.T2Loop
public import proofs.«01_k».proof.Proof.Main
public import proofs.«01_k».proof.Proof.Rows

@[expose] public section

set_option maxRecDepth 16384

noncomputable section

namespace Cert.KernelIdeal.Val

open Cert.KernelIdeal.Gen Cert.Spec Idealize.ShloMosaic Idealize.ShloMosaic.TcCoe

/-! What the body leaves in its five output buffers, as functions of the six input blocks. -/

/-- The first output's block. -/
def oH (x0 : S256x7168.Idx → EReal) (x1 : S256x4608.Idx → EReal) (x2 : S4608x7168.Idx → EReal) (x3 x4 : S1x4608.Idx → EReal) : S256x4608.Idx → EReal :=
  fun y => rowH x0 x1 x2 x3 x4 (y 0).val (y 1)

/-- The block of the second normalisation's codes. -/
def oZ (x0 : S256x7168.Idx → EReal) (x1 : S256x4608.Idx → EReal) (x2 : S4608x7168.Idx → EReal) (x3 x4 x5 : S1x4608.Idx → EReal) : S256x4608.Idx → EReal :=
  fun y => codes (rowZ x0 x1 x2 x3 x4 x5 (y 0).val) (y 1)

/-- The block of their scales. -/
def oZs (x0 : S256x7168.Idx → EReal) (x1 : S256x4608.Idx → EReal) (x2 : S4608x7168.Idx → EReal) (x3 x4 x5 : S1x4608.Idx → EReal) : S256x1.Idx → EReal :=
  fun y => scaleK (amax (rowZ x0 x1 x2 x3 x4 x5 (y 0).val))

variable (c : Dev nD) (i : grid0.Coords) (arg1 : Memref sig .tc .vmem S256x7168 .bf16) (harg1 : arg1.IsWhole) (arg2 : Memref sig .tc .vmem S256x4608 .bf16) (harg2 : arg2.IsWhole) (arg3 : Memref sig .tc .vmem S4608x7168 .fp8e4m3) (harg3 : arg3.IsWhole) (arg4 : Memref sig .tc .vmem S1x4608 .f32) (harg4 : arg4.IsWhole) (arg5 : Memref sig .tc .vmem S1x4608 .f32) (harg5 : arg5.IsWhole) (arg6 : Memref sig .tc .vmem S1x4608 .f32) (harg6 : arg6.IsWhole) (arg7 : Memref sig .tc .vmem S256x4608 .bf16) (harg7 : arg7.IsWhole) (arg8 : Memref sig .tc .vmem S256x7168 .fp8e4m3) (harg8 : arg8.IsWhole) (arg9 : Memref sig .tc .vmem S256x1 .f32) (harg9 : arg9.IsWhole) (arg10 : Memref sig .tc .vmem S256x4608 .fp8e4m3) (harg10 : arg10.IsWhole) (arg11 : Memref sig .tc .vmem S256x1 .f32) (harg11 : arg11.IsWhole) (arg12 : Memref sig .tc .vmem S256x4608 .f32) (harg12 : arg12.IsWhole) (arg13 : Memref sig .tc .vmem S256x128 .f32) (harg13 : arg13.IsWhole) (arg14 : Memref sig .tc .vmem S256x128 .f32) (harg14 : arg14.IsWhole)
  (x0 : S256x7168.Idx → EReal) (x1 : S256x4608.Idx → EReal) (x2 : S4608x7168.Idx → EReal) (x3 x4 x5 : S1x4608.Idx → EReal)
  (f7 : Buf (Elt Ideal) (arg8.view.loc (c : Thread nD τ))) (fs2 : Buf (Elt Ideal) (arg14.view.loc (c : Thread nD τ)))

/-- The scratch of products, read back. -/
theorem read_y (J : arg12.view.ty.Contents (Elt Ideal)) :
    arg12.view.read (Elt Ideal) (arg12.view.writes (Elt Ideal) J (runV.sl.HS0_36 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2)) = gY x0 x2 x3 := by
  funext y
  have hc := View.cover_of_tiledL (runV.sl.HS0_36 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2) S256x128.size (by sl_kernel_rfl) y
  rw [View.read_writes_apply_eq_canon _ _ _ _ hc]
  exact View.canon_apply_of_pieces _ _ (main_pieces c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2).mem y hc

/-- The scratch of sums, read back. -/
theorem read_s (J : arg13.view.ty.Contents (Elt Ideal)) :
    arg13.view.read (Elt Ideal) (arg13.view.writes (Elt Ideal) J (runV.sl.HS1_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2)) = gS x0 x2 x3 := by
  funext y
  have hc := View.cover_of_tiledL (runV.sl.HS1_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2) S256x128.size (by sl_kernel_rfl) y
  rw [View.read_writes_apply_eq_canon _ _ _ _ hc]
  exact main_sums c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 y

section
variable (X2 : arg2.view.ty.Contents (Elt Ideal)) (X5 : arg5.view.ty.Contents (Elt Ideal)) (X6 : arg6.view.ty.Contents (Elt Ideal))
  (X12 : arg12.view.ty.Contents (Elt Ideal)) (X13 : arg13.view.ty.Contents (Elt Ideal))
  (h2 : arg2.view.read (Elt Ideal) X2 = x1) (h5 : arg5.view.read (Elt Ideal) X5 = x4)
  (h12 : arg12.view.read (Elt Ideal) X12 = gY x0 x2 x3) (h13 : arg13.view.read (Elt Ideal) X13 = gS x0 x2 x3)
include h2 h5 h12 h13

/-- The first output's block, as rows of the inputs. -/
theorem gH_row : gH arg2 X2 arg5 X5 arg12 X12 arg13 X13 = oH x0 x1 x2 x3 x4 := by
  funext y
  show hh arg2 X2 arg5 X5 arg12 X12 arg13 X13 (y 0).val (y 1).val = _
  unfold hh
  rw [h2, h5, h12, h13]
  exact hAt_row x0 x1 x2 x3 x4 (y 0).val (y 0).isLt (y 1)

variable (h6 : arg6.view.read (Elt Ideal) X6 = x5)
include h6

/-- A row of the second normalisation, as a row of the inputs. -/
theorem zR_row (r : ℕ) (hr : r < 256) : zR arg2 X2 arg5 X5 arg6 X6 arg12 X12 arg13 X13 r = rowZ x0 x1 x2 x3 x4 x5 r := by
  funext n
  unfold zR zz
  rw [h2, h5, h6, h12, h13]
  exact zAt_row x0 x1 x2 x3 x4 x5 r hr n

/-- The block of codes of the second normalisation, as rows of the inputs. -/
theorem gZ_row : gZ arg2 X2 arg5 X5 arg6 X6 arg12 X12 arg13 X13 = oZ x0 x1 x2 x3 x4 x5 := by
  funext y
  exact congrArg (fun f => codes f (y 1)) (zR_row _ _ _ _ _ x0 x1 x2 x3 x4 x5 X2 X5 X6 X12 X13 h2 h5 h12 h13 h6 (y 0).val (y 0).isLt)

/-- The block of scales of the second normalisation, as rows of the inputs. -/
theorem gZs_row : gZs arg2 X2 arg5 X5 arg6 X6 arg12 X12 arg13 X13 = oZs x0 x1 x2 x3 x4 x5 := by
  funext y
  exact congrArg (fun f => scaleK (amax f)) (zR_row _ _ _ _ _ x0 x1 x2 x3 x4 x5 X2 X5 X6 X12 X13 h2 h5 h12 h13 h6 (y 0).val (y 0).isLt)

end

section
variable (f6 : Buf (Elt Ideal) (arg7.view.loc (c : Thread nD τ))) (f8 : Buf (Elt Ideal) (arg9.view.loc (c : Thread nD τ)))
  (f9 : Buf (Elt Ideal) (arg10.view.loc (c : Thread nD τ))) (f10 : Buf (Elt Ideal) (arg11.view.loc (c : Thread nD τ)))

/-- The first output's buffer after the body. -/
theorem run_h : arg7.view.read (Elt Ideal) (arg7.view.writes (Elt Ideal) f6 ((runV (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).1 f6 f7 f9 f10 fs2)) = oH x0 x1 x2 x3 x4 := by
  refine (t2_read7 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ f6).trans ?_
  exact gH_row _ _ _ _ x0 x1 x2 x3 x4 _ _ _ _ (harg2.read_unread _) (harg5.read_unread _) (read_y c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 _) (read_s c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 _)

/-- The codes of `x` after the body. -/
theorem run_x : arg8.view.read (Elt Ideal) (arg8.view.writes (Elt Ideal) f7 (runV (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.1) = gCodes x0 :=
  (t1_read8 Variants.none c none i arg1 harg1 arg2 harg2 arg3 harg3 arg4 harg4 arg5 harg5 arg6 harg6 arg7 harg7 arg8 harg8 arg9 harg9 arg10 harg10 arg11 harg11 arg12 harg12 arg13 harg13 arg14 harg14 _ f7).trans (congrArg gCodes (harg1.read_unread _))

/-- Their scales after the body. -/
theorem run_xs : arg9.view.read (Elt Ideal) (arg9.view.writes (Elt Ideal) f8 (runV (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1) = gScale x0 :=
  (t1_read9 Variants.none c none i arg1 harg1 arg2 harg2 arg3 harg3 arg4 harg4 arg5 harg5 arg6 harg6 arg7 harg7 arg8 harg8 arg9 harg9 arg10 harg10 arg11 harg11 arg12 harg12 arg13 harg13 arg14 harg14 _ f8).trans (congrArg gScale (harg1.read_unread _))

/-- The codes of the second normalisation after the body. -/
theorem run_z : arg10.view.read (Elt Ideal) (arg10.view.writes (Elt Ideal) f9 ((runV (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.1 f6 f7 f9 f10 fs2)) = oZ x0 x1 x2 x3 x4 x5 := by
  refine (t2_read10 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ f9).trans ?_
  exact gZ_row _ _ _ _ _ x0 x1 x2 x3 x4 x5 _ _ _ _ _ (harg2.read_unread _) (harg5.read_unread _) (read_y c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 _) (read_s c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 _) (harg6.read_unread _)

/-- Their scales after the body. -/
theorem run_zs : arg11.view.read (Elt Ideal) (arg11.view.writes (Elt Ideal) f10 ((runV (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.val f6 f7 f9 f10 fs2)) = oZs x0 x1 x2 x3 x4 x5 := by
  refine (t2_read11 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ f10).trans ?_
  exact gZs_row _ _ _ _ _ x0 x1 x2 x3 x4 x5 _ _ _ _ _ (harg2.read_unread _) (harg5.read_unread _) (read_y c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 _) (read_s c i arg1 harg1 arg2 harg2 arg3 harg3 arg4 harg4 arg5 harg5 arg6 harg6 arg7 harg7 arg8 harg8 arg9 harg9 arg10 harg10 arg11 harg11 arg12 harg12 arg13 harg13 arg14 harg14 x0 x2 x3 f7 fs2 _) (harg6.read_unread _)

end

end Cert.KernelIdeal.Val
-- ==== Proof.FrameV.lean ====
/- The idealized kernel's run, by values: what the five output arrays hold block by block. -/
module

public import proofs.«01_k».proof.Proof.Block
public import Idealize.ShloMosaic.Lib.Claim

@[expose] public section

-- membership in a rectangle of production extents (`View.cover_of_tiled`): the elaborator's structural look
-- recurses once per coordinate of the long axes
set_option maxRecDepth 16384

noncomputable section

namespace Cert.KernelIdeal.Val

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- The body on whole staging memrefs, by values: the outputs' buffers end at the functions of the input blocks. -/
theorem bodyV (c : Dev nD) (i : grid0.Coords) (arg1 : Memref sig .tc .vmem S256x7168 .bf16) (harg1 : arg1.IsWhole) (arg2 : Memref sig .tc .vmem S256x4608 .bf16) (harg2 : arg2.IsWhole) (arg3 : Memref sig .tc .vmem S4608x7168 .fp8e4m3) (harg3 : arg3.IsWhole) (arg4 : Memref sig .tc .vmem S1x4608 .f32) (harg4 : arg4.IsWhole) (arg5 : Memref sig .tc .vmem S1x4608 .f32) (harg5 : arg5.IsWhole) (arg6 : Memref sig .tc .vmem S1x4608 .f32) (harg6 : arg6.IsWhole) (arg7 : Memref sig .tc .vmem S256x4608 .bf16) (harg7 : arg7.IsWhole) (arg8 : Memref sig .tc .vmem S256x7168 .fp8e4m3) (harg8 : arg8.IsWhole) (arg9 : Memref sig .tc .vmem S256x1 .f32) (harg9 : arg9.IsWhole) (arg10 : Memref sig .tc .vmem S256x4608 .fp8e4m3) (harg10 : arg10.IsWhole) (arg11 : Memref sig .tc .vmem S256x1 .f32) (harg11 : arg11.IsWhole) (arg12 : Memref sig .tc .vmem S256x4608 .f32) (harg12 : arg12.IsWhole) (arg13 : Memref sig .tc .vmem S256x128 .f32) (harg13 : arg13.IsWhole) (arg14 : Memref sig .tc .vmem S256x128 .f32) (harg14 : arg14.IsWhole)
    (x0 : Vec Ideal S256x7168 .bf16) (x1 : Vec Ideal S256x4608 .bf16) (x2 : Vec Ideal S4608x7168 .fp8e4m3) (x3 x4 x5 : Vec Ideal S1x4608 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (oH x0 x1 x2 x3 x4) ∗ owns (c : Thread nD τ) arg8 fullShare (gCodes x0) ∗ owns (c : Thread nD τ) arg9 fullShare (gScale x0) ∗ owns (c : Thread nD τ) arg10 fullShare (oZ x0 x1 x2 x3 x4 x5) ∗ owns (c : Thread nD τ) arg11 fullShare (oZs x0 x1 x2 x3 x4 x5) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := Ideal)) Variants.none c none) E (cc0_oproj_norms i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨H0, H1, H2, H3, H4, H5, ⟨%d6, %f6, %hf6, H6⟩, ⟨%d7, %f7, %hf7, H7⟩, ⟨%d8, %f8, %hf8, H8⟩, ⟨%d9, %f9, %hf9, H9⟩, ⟨%d10, %f10, %hf10, H10⟩, ⟨%ds0, %fs0, %hs0, HS0⟩, ⟨%ds1, %fs1, %hs1, HS1⟩, ⟨%ds2, %fs2, %hs2, HS2⟩, Hk⟩
  iapply ((runV (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2 E K f6 f7 f8 f9 f10 fs0 fs1 fs2)
  isplitl [H0]; · unfold owns; iexact H0
  isplitl [H1]; · unfold owns; iexact H1
  isplitl [H2]; · unfold owns; iexact H2
  isplitl [H3]; · unfold owns; iexact H3
  isplitl [H4]; · unfold owns; iexact H4
  isplitl [H5]; · unfold owns; iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  iintro ⟨H0, H1, H2, H3, H4, H5, H6, H7, H8, H9, H10, HS0, HS1, HS2⟩
  iapply Hk
  unfold owns
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact run_h c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 f7 fs2 f6 f9 f10
  isplitl [H7]
  · iexists _; isplitr
    swap; · iexact H7
    ipureintro; exact run_x c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 f7
  isplitl [H8]
  · iexists _; isplitr
    swap; · iexact H8
    ipureintro; exact run_xs c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 f8
  isplitl [H9]
  · iexists _; isplitr
    swap; · iexact H9
    ipureintro; exact run_z c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 f7 fs2 f6 f9 f10
  isplitl [H10]
  · iexists _; isplitr
    swap; · iexact H10
    ipureintro; exact run_zs c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 f7 fs2 f6 f9 f10
  isplitl [HS0]; · iexact HS0
  isplitl [HS1]; · iexact HS1
  iexact HS2

/-! ## The pipeline's proof data -/

/-- The proof data of the one pipeline on core `c`: the arrays as the region finds them (`V`); after the body at
    point `t` each input's buffer at its block and the outputs' at the block functions; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oH (iblk m c 0 t) (iblk m c 1 t) (iblk m c 2 t) (iblk m c 3 t) (iblk m c 4 t)
    | ⟨7, _⟩ => gCodes (iblk m c 0 t)
    | ⟨8, _⟩ => gScale (iblk m c 0 t)
    | ⟨9, _⟩ => oZ (iblk m c 0 t) (iblk m c 1 t) (iblk m c 2 t) (iblk m c 3 t) (iblk m c 4 t) (iblk m c 5 t)
    | ⟨10, _⟩ => oZs (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- Window 1 still holds its block after it. -/
theorem after0_1 (c : Dev nD) (t : Fin cfg0.N) : (dats m 0 c).after 1 t = iblk m c 1 t := by dsimp only [dats]
/-- Window 2 still holds its block after it. -/
theorem after0_2 (c : Dev nD) (t : Fin cfg0.N) : (dats m 0 c).after 2 t = iblk m c 2 t := by dsimp only [dats]
/-- Window 3 still holds its block after it. -/
theorem after0_3 (c : Dev nD) (t : Fin cfg0.N) : (dats m 0 c).after 3 t = iblk m c 3 t := by dsimp only [dats]
/-- Window 4 still holds its block after it. -/
theorem after0_4 (c : Dev nD) (t : Fin cfg0.N) : (dats m 0 c).after 4 t = iblk m c 4 t := by dsimp only [dats]
/-- Window 5 still holds its block after it. -/
theorem after0_5 (c : Dev nD) (t : Fin cfg0.N) : (dats m 0 c).after 5 t = iblk m c 5 t := by dsimp only [dats]
/-- What a point's body leaves in window 6. -/
theorem after0_6 (c : Dev nD) (t : Fin cfg0.N) : (dats m 0 c).after 6 t = oH (iblk m c 0 t) (iblk m c 1 t) (iblk m c 2 t) (iblk m c 3 t) (iblk m c 4 t) := by dsimp only [dats]
/-- What a point's body leaves in window 7. -/
theorem after0_7 (c : Dev nD) (t : Fin cfg0.N) : (dats m 0 c).after 7 t = gCodes (iblk m c 0 t) := by dsimp only [dats]
/-- What a point's body leaves in window 8. -/
theorem after0_8 (c : Dev nD) (t : Fin cfg0.N) : (dats m 0 c).after 8 t = gScale (iblk m c 0 t) := by dsimp only [dats]
/-- What a point's body leaves in window 9. -/
theorem after0_9 (c : Dev nD) (t : Fin cfg0.N) : (dats m 0 c).after 9 t = oZ (iblk m c 0 t) (iblk m c 1 t) (iblk m c 2 t) (iblk m c 3 t) (iblk m c 4 t) (iblk m c 5 t) := by dsimp only [dats]
/-- What a point's body leaves in window 10. -/
theorem after0_10 (c : Dev nD) (t : Fin cfg0.N) : (dats m 0 c).after 10 t = oZs (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1 holds its block before a point's body. -/
theorem before0_1 (c : Dev nD) (t : Fin cfg0.N) (d) : (dats m 0 c).before 1 t d = iblk m c 1 t :=
  before0_1_of m (dats m 0 c) (A_eq m c 1) (after0_1 m c) t d
/-- Window 2 holds its block before a point's body. -/
theorem before0_2 (c : Dev nD) (t : Fin cfg0.N) (d) : (dats m 0 c).before 2 t d = iblk m c 2 t :=
  before0_2_of m (dats m 0 c) (A_eq m c 2) (after0_2 m c) t d
/-- Window 3 holds its block before a point's body. -/
theorem before0_3 (c : Dev nD) (t : Fin cfg0.N) (d) : (dats m 0 c).before 3 t d = iblk m c 3 t :=
  before0_3_of m (dats m 0 c) (A_eq m c 3) (after0_3 m c) t d
/-- Window 4 holds its block before a point's body. -/
theorem before0_4 (c : Dev nD) (t : Fin cfg0.N) (d) : (dats m 0 c).before 4 t d = iblk m c 4 t :=
  before0_4_of m (dats m 0 c) (A_eq m c 4) (after0_4 m c) t d
/-- Window 5 holds its block before a point's body. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bodyV c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame, with every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Val

end
-- ==== Proof.Arrays.lean ====
module

public import proofs.«01_k».proof.Proof.FrameV

@[expose] public section

set_option maxRecDepth 16384

noncomputable section

namespace Cert.KernelIdeal.Val

open Cert.KernelIdeal.Gen Cert.Spec Idealize.ShloMosaic Idealize.ShloMosaic.TcCoe Idealize.ShloMosaic.Tactic

/-! What the kernel's arrays hold after the run: block `t` is rows `256 t` and on. -/

variable (m : (ℓ : Loc nD τ sig) → Buf (Elt Ideal) ℓ) (c : Dev nD)

/-- Which block of each array a grid point takes: the point's own block of rows, or the one block there is. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

/-- The six inputs as the body finds them. -/
abbrev aX : S32768x7168.Idx → EReal := V m c main_v0
/-- The residual. -/
abbrev aR : S32768x4608.Idx → EReal := V m c main_v1
/-- The weight. -/
abbrev aW : S4608x7168.Idx → EReal := V m c main_arg2
/-- The weight's scales. -/
abbrev aWs : S1x4608.Idx → EReal := V m c main_v2
/-- The first gain. -/
abbrev aG : S1x4608.Idx → EReal := V m c main_v3
/-- The second gain. -/
abbrev aP : S1x4608.Idx → EReal := V m c main_v4

/-- A row of the first output, of whole inputs. -/
def fH (x0 : S32768x7168.Idx → EReal) (x1 : S32768x4608.Idx → EReal) (x2 : S4608x7168.Idx → EReal) (x3 x4 : S1x4608.Idx → EReal) (r : Fin 32768) :
    Fin 4608 → EReal :=
  hrow (fun k => x0 (ix2 r k)) (fun n k => x2 (ix2 n k)) (fun n => x3 (ix2 0 n)) (fun n => x4 (ix2 0 n)) (fun n => x1 (ix2 r n))

/-- A row of the second normalisation. -/
def fZ (x0 : S32768x7168.Idx → EReal) (x1 : S32768x4608.Idx → EReal) (x2 : S4608x7168.Idx → EReal) (x3 x4 x5 : S1x4608.Idx → EReal) (r : Fin 32768) :
    Fin 4608 → EReal :=
  zrow (fH x0 x1 x2 x3 x4 r) (fun n => x5 (ix2 0 n))

/-- Equal rows give an equal first output. -/
theorem hrow_congr {x x' : Fin 7168 → EReal} {w w' : Fin 4608 → Fin 7168 → EReal} {ws ws' g g' r r' : Fin 4608 → EReal}
    (hx : x = x') (hw : w = w') (hs : ws = ws') (hg : g = g') (hr : r = r') : hrow x w ws g r = hrow x' w' ws' g' r' := by
  subst hx hw hs hg hr; rfl

section
variable (t : Fin cfg0.N)

/-- A row of a point's block is a row of the array. -/
theorem lt_rows (r : ℕ) (hr : r < 256) : t.val * 256 + r < 32768 := by
  have h : t.val < 128 := t.isLt
  omega

/-- A row of a point's block is a row of the array. -/
theorem blk0 (r : ℕ) (hr : r < 256) : rowAt (m := 256) (n := 7168) (iblk m c 0 t) r = fun k => aX m c (ix2 ⟨t.val * 256 + r, lt_rows t r hr⟩ k) := by
  funext k
  unfold rowAt
  rw [at2_in _ r k.val hr k.isLt]
  blk_ext [iblk, idx t]
/-- A row of a point's residual block is a row of the residual. -/
theorem blk1 (r : ℕ) (hr : r < 256) : rowAt (m := 256) (n := 4608) (iblk m c 1 t) r = fun k => aR m c (ix2 ⟨t.val * 256 + r, lt_rows t r hr⟩ k) := by
  funext k
  unfold rowAt
  rw [at2_in _ r k.val hr k.isLt]
  blk_ext [iblk, idx t]
/-- A point reads the whole weight. -/
theorem blk2 (n : Fin 4608) (k : Fin 7168) : at2 (m := 4608) (n := 7168) (iblk m c 2 t) n.val k.val = aW m c (ix2 n k) := by
  rw [at2_in _ n.val k.val n.isLt k.isLt]
  blk_ext [iblk, idx t]
/-- A point reads all of the weight's scales. -/
theorem blk3 (n : Fin 4608) : at2 (m := 1) (n := 4608) (iblk m c 3 t) 0 n.val = aWs m c (ix2 0 n) := by
  rw [at2_in _ 0 n.val Nat.one_pos n.isLt]
  blk_ext [iblk, idx t]
/-- A point reads the whole first gain. -/
theorem blk4 (n : Fin 4608) : at2 (m := 1) (n := 4608) (iblk m c 4 t) 0 n.val = aG m c (ix2 0 n) := by
  rw [at2_in _ 0 n.val Nat.one_pos n.isLt]
  blk_ext [iblk, idx t]
/-- A point reads the whole second gain. -/
theorem blk5 (n : Fin 4608) : at2 (m := 1) (n := 4608) (iblk m c 5 t) 0 n.val = aP m c (ix2 0 n) := by
  rw [at2_in _ 0 n.val Nat.one_pos n.isLt]
  blk_ext [iblk, idx t]

/-- A row of the first output's block. -/
theorem rowH_eq (r : ℕ) (hr : r < 256) :
    rowH (iblk m c 0 t) (iblk m c 1 t) (iblk m c 2 t) (iblk m c 3 t) (iblk m c 4 t) r
      = fH (aX m c) (aR m c) (aW m c) (aWs m c) (aG m c) ⟨t.val * 256 + r, lt_rows t r hr⟩ := by
  unfold rowH fH
  exact hrow_congr (blk0 m c t r hr) (funext fun n => funext fun k => blk2 m c t n k) (funext (blk3 m c t)) (funext (blk4 m c t)) (blk1 m c t r hr)

/-- A row of the second normalisation's. -/
theorem rowZ_eq (r : ℕ) (hr : r < 256) :
    rowZ (iblk m c 0 t) (iblk m c 1 t) (iblk m c 2 t) (iblk m c 3 t) (iblk m c 4 t) (iblk m c 5 t) r
      = fZ (aX m c) (aR m c) (aW m c) (aWs m c) (aG m c) (aP m c) ⟨t.val * 256 + r, lt_rows t r hr⟩ := by
  unfold rowZ fZ
  exact congrArg₂ zrow (rowH_eq m c t r hr) (funext (blk5 m c t))
end

/-- The array of output 0. -/
theorem final6 : (dats m 0 c).arrAt 6 (cfgs 0).N = fun y : S32768x4608.Idx => fH (aX m c) (aR m c) (aW m c) (aWs m c) (aG m c) (y 0) (y 1) := by
  refine (dats m 0 c).arrAt_eq_of_covers 6 _ (by decide +kernel) fun t hf y => ?_
  have e0 : (win0_6.blk t).view.emb y 0 = (⟨t.val * 256 + (y 0).val, lt_rows t (y 0).val (y 0).isLt⟩ : Fin 32768) := Fin.ext (by blk_simp [idx t])
  have e1 : (win0_6.blk t).view.emb y 1 = (y 1 : Fin 4608) := Fin.ext (by blk_simp [idx t])
  blk_simp
  rw [after0_6, e0, e1]
  exact congrArg (fun f : Fin 4608 → EReal => f (y 1)) (rowH_eq m c t (y 0).val (y 0).isLt)

/-- The array of output 1. -/
theorem final7 : (dats m 0 c).arrAt 7 (cfgs 0).N = fun y : S32768x7168.Idx => codes (fun k => aX m c (ix2 (y 0) k)) (y 1) := by
  refine (dats m 0 c).arrAt_eq_of_covers 7 _ (by decide +kernel) fun t hf y => ?_
  have e0 : (win0_7.blk t).view.emb y 0 = (⟨t.val * 256 + (y 0).val, lt_rows t (y 0).val (y 0).isLt⟩ : Fin 32768) := Fin.ext (by blk_simp [idx t])
  have e1 : (win0_7.blk t).view.emb y 1 = (y 1 : Fin 7168) := Fin.ext (by blk_simp [idx t])
  blk_simp
  rw [after0_7, e0, e1]
  exact congrArg (fun f : Fin 7168 → EReal => codes f (y 1)) (blk0 m c t (y 0).val (y 0).isLt)

/-- The array of output 2. -/
theorem final8 : (dats m 0 c).arrAt 8 (cfgs 0).N = fun y : S32768x1.Idx => scaleK (amax fun k => aX m c (ix2 (y 0) k)) := by
  refine (dats m 0 c).arrAt_eq_of_covers 8 _ (by decide +kernel) fun t hf y => ?_
  have e0 : (win0_8.blk t).view.emb y 0 = (⟨t.val * 256 + (y 0).val, lt_rows t (y 0).val (y 0).isLt⟩ : Fin 32768) := Fin.ext (by blk_simp [idx t])
  blk_simp
  rw [after0_8, e0]
  exact congrArg (fun f : Fin 7168 → EReal => scaleK (amax f)) (blk0 m c t (y 0).val (y 0).isLt)

/-- The array of output 3. -/
theorem final9 : (dats m 0 c).arrAt 9 (cfgs 0).N = fun y : S32768x4608.Idx => codes (fZ (aX m c) (aR m c) (aW m c) (aWs m c) (aG m c) (aP m c) (y 0)) (y 1) := by
  refine (dats m 0 c).arrAt_eq_of_covers 9 _ (by decide +kernel) fun t hf y => ?_
  have e0 : (win0_9.blk t).view.emb y 0 = (⟨t.val * 256 + (y 0).val, lt_rows t (y 0).val (y 0).isLt⟩ : Fin 32768) := Fin.ext (by blk_simp [idx t])
  have e1 : (win0_9.blk t).view.emb y 1 = (y 1 : Fin 4608) := Fin.ext (by blk_simp [idx t])
  blk_simp
  rw [after0_9, e0, e1]
  exact congrArg (fun f : Fin 4608 → EReal => codes f (y 1)) (rowZ_eq m c t (y 0).val (y 0).isLt)

/-- The array of output 4. -/
theorem final10 : (dats m 0 c).arrAt 10 (cfgs 0).N = fun y : S32768x1.Idx => scaleK (amax (fZ (aX m c) (aR m c) (aW m c) (aWs m c) (aG m c) (aP m c) (y 0))) := by
  refine (dats m 0 c).arrAt_eq_of_covers 10 _ (by decide +kernel) fun t hf y => ?_
  have e0 : (win0_10.blk t).view.emb y 0 = (⟨t.val * 256 + (y 0).val, lt_rows t (y 0).val (y 0).isLt⟩ : Fin 32768) := Fin.ext (by blk_simp [idx t])
  blk_simp
  rw [after0_10, e0]
  exact congrArg (fun f : Fin 4608 → EReal => scaleK (amax f)) (rowZ_eq m c t (y 0).val (y 0).isLt)

end Cert.KernelIdeal.Val
-- ==== Proof.RefSpec.lean ====
module

public import proofs.«01_k».proof.Proof.Spec

@[expose] public section

noncomputable section

namespace Cert.Spec

open Idealize.ShloMosaic

/-! What one row of the reference computes, over the extended reals. -/

/-- Two to an integer power. -/
def pow2 (e : BitVec 32) : EReal := FloatOps.exp2 (F := Ideal) (φ := .f32) (FloatOps.sitofp (F := Ideal) .f32 e)

/-- How many of the powers from the smallest normal one up to `2 ^ 127` are at most `v`. -/
def countR (v : EReal) : BitVec 32 :=
  Finset.univ.fold IntOp.addi 0#32 fun k : Fin 254 =>
    BitVec.setWidth 32 (BitVec.ofBool (decide (pow2 (IntOp.subi (BitVec.ofNat 32 k.val) 126#32) ≤ v)))

/-- The exponent the reference takes for a row of largest magnitude `M`. -/
def expR (M : EReal) : BitVec 32 :=
  if M = 0 then 0#32 else if M * bits 991054117#32 < bits 8388608#32 then 0#32 else IntOp.subi (countR (M * bits 991054117#32)) 126#32

/-- The largest magnitude of a row. -/
def magMax {n : ℕ} (v : Fin n → EReal) : EReal := Finset.univ.sup fun c => mag (v c)

/-- The reference's scale of a row. -/
def scaleR {n : ℕ} (v : Fin n → EReal) : EReal := pow2 (expR (magMax v))

/-- The reference's codes of a row. -/
def codesR {n : ℕ} (v : Fin n → EReal) (c : Fin n) : EReal := code (v c) (pow2 (IntOp.subi 0#32 (expR (magMax v))))

/-- The reciprocal root of a row's mean square plus the constant. -/
def rinvR (v : Fin 4608 → EReal) : EReal :=
  FloatOps.rsqrt (F := Ideal) (φ := .f32)
    (Ideal.div (∑ c, v c * v c) (bits 1167065088#32) + bits 897988541#32)

/-- A row of the product with the weights, scaled. -/
def yrowR (x : Fin 7168 → EReal) (w : Fin 4608 → Fin 7168 → EReal) (ws : Fin 4608 → EReal) (n : Fin 4608) : EReal :=
  (∑ k, codesR x k * w n k) * scaleR x * ws n

/-- A row of the first output. -/
def hrowR (x : Fin 7168 → EReal) (w : Fin 4608 → Fin 7168 → EReal) (ws gpost resid : Fin 4608 → EReal) (n : Fin 4608) : EReal :=
  yrowR x w ws n * rinvR (yrowR x w ws) * (1 + gpost n) + resid n

/-- A row of the second normalisation. -/
def zrowR (h gpre : Fin 4608 → EReal) (n : Fin 4608) : EReal := h n * rinvR h * (1 + gpre n)

end Cert.Spec
-- ==== Proof.RefVal.lean ====
module

public import proofs.«01_k».proof.Proof.Gen.ReferenceIdeal.Frame
public import proofs.«01_k».proof.Proof.RefSpec

@[expose] public section

set_option maxRecDepth 16384

noncomputable section

namespace Cert.ReferenceIdeal.Val

open Cert.ReferenceIdeal Cert.ReferenceIdeal.Gen Cert.Spec Idealize.ShloMosaic

/-! What the reference's body computes, row by row. -/

/-- An index of two coordinates is made of them. -/
theorem ix2_eq {m n : ℕ} (j : (⟨2, ![m, n]⟩ : Shape).Idx) : ix2 (j 0) (j 1) = j := by
  funext a; fin_cases a <;> rfl

/-- A count along the powers' axis, read row by row. -/
theorem count_fold (src : IVec S32768x254 32) (j : S32768x1.Idx) :
    shapeCast S32768x1 (multiReductionI .add [1] S32768 src 0#32 reduces_S32768x254_S32768 rfl) shapeCasts_S32768_S32768x1 j
      = Finset.univ.fold IntOp.addi 0#32 fun k : Fin 254 => src (ix2 (j 0) k) := by
  pointwise

/-- The table of powers of two. -/
theorem powers (j : S1x254.Idx) :
    (exp2 (sitofp .f32 (subi (iota .tc S1x254 32 [1] iota_S1x254_d1_w32) (broadcast S1x254 126#32))) : FVec Ideal S1x254 .f32) j
      = pow2 (IntOp.subi (BitVec.ofNat 32 (j 1).val) 126#32) := by
  pointwise
  rfl

/-- One comparison of a row's value with a power. -/
theorem compare (v : FVec Ideal S32768x1 .f32) (p : FVec Ideal S1x254 .f32) (j : S32768x254.Idx) :
    extui 32 (cmpf .oge (broadcastTo S32768x254 v broadcasts_S32768x1_S32768x254) (broadcastTo S32768x254 p broadcasts_S1x254_S32768x254)) natLt_1_32 j
      = BitVec.setWidth 32 (BitVec.ofBool (decide (p (ix2 0 (j 1)) ≤ v (ix2 (j 0) 0)))) := by
  pointwise

/-- The exponents of all rows, of their largest magnitudes. -/
def expVec (M : FVec Ideal S32768x1 .f32) : IVec S32768x1 32 :=
  let v7 := mulf M (broadcast S32768x1 (Scalar.ofBits .f32 0x3B124925#32))
  let v12 := exp2 (sitofp .f32 (subi (iota .tc S1x254 32 [1] iota_S1x254_d1_w32) (broadcast S1x254 126#32)))
  let v17 := multiReductionI .add [1] S32768 (extui 32 (cmpf .oge (broadcastTo S32768x254 v7 broadcasts_S32768x1_S32768x254) (broadcastTo S32768x254 v12 broadcasts_S1x254_S32768x254)) natLt_1_32) 0#32 reduces_S32768x254_S32768 rfl
  let v20 := subi (shapeCast S32768x1 v17 shapeCasts_S32768_S32768x1) (broadcast S32768x1 126#32)
  select (cmpf .oeq M (broadcast S32768x1 (Scalar.ofBits .f32 0x00000000#32))) (broadcast S32768x1 0#32)
    (select (cmpf .olt v7 (broadcast S32768x1 (Scalar.ofBits .f32 0x00800000#32))) (broadcast S32768x1 0#32) v20)

/-- The selections, read at a row. -/
theorem select_row (M : FVec Ideal S32768x1 .f32) (n : IVec S32768x1 32) (j : S32768x1.Idx) :
    select (cmpf .oeq M (broadcast S32768x1 (Scalar.ofBits .f32 0x00000000#32))) (broadcast S32768x1 0#32)
      (select (cmpf .olt (mulf M (broadcast S32768x1 (Scalar.ofBits .f32 0x3B124925#32))) (broadcast S32768x1 (Scalar.ofBits .f32 0x00800000#32)))
        (broadcast S32768x1 0#32) (subi n (broadcast S32768x1 126#32))) j
      = if M j = 0 then 0#32 else if M j * bits 991054117#32 < bits 8388608#32 then 0#32 else IntOp.subi (n j) 126#32 := by
  pointwise

/-- The exponents, row by row. -/
theorem expVec_row (M : FVec Ideal S32768x1 .f32) (j : S32768x1.Idx) : expVec M j = expR (M j) := by
  refine (select_row M _ j).trans ?_
  rw [count_fold]
  simp only [compare]
  have hj : (ix2 (j 0) 0 : S32768x1.Idx) = j := by
    funext a; fin_cases a
    · rfl
    · exact Subsingleton.elim (α := Fin 1) _ _
  unfold expR countR
  refine if_congr Iff.rfl rfl (if_congr Iff.rfl rfl ?_)
  refine congrArg (IntOp.subi · 126#32) ?_
  refine congrArg (fun f : Fin 254 → BitVec 32 => Finset.univ.fold IntOp.addi 0#32 f) (funext fun k => ?_)
  refine congrArg (fun b => BitVec.setWidth 32 (BitVec.ofBool b)) (decide_eq_decide.mpr ?_)
  exact iff_of_eq (congrArg₂ (fun a b : EReal => a ≤ b) (powers (ix2 0 k)) (congrArg (fun i => M i * bits 991054117#32) hj))

/-- The largest magnitude of a row. -/
theorem max_row {n : ℕ} (v : FVec Ideal (⟨2, ![32768, n]⟩ : Shape) .f32) (h : (⟨2, ![32768, n]⟩ : Shape).Reduces [1] S32768) (j : S32768x1.Idx) :
    shapeCast S32768x1 (multiReduction .maximumf [1] S32768 (absf v) 0xFF800000#32 h (.inl rfl) rfl) shapeCasts_S32768_S32768x1 j
      = magMax fun c => v (ix2 (j 0) c) := by
  have e : magMax (fun c => v (ix2 (j 0) c)) = Finset.univ.fold max (Ideal.ofBits .f32 4286578688#32) fun c => mag (v (ix2 (j 0) c)) := (fold_max _).symm
  rw [e]
  pointwise

/-- The exponent of a row of the activations. -/
theorem pay2 (X : S32768x7168.Idx → EReal) (j : S32768x1.Idx) :
    k0_pay2 (F := Ideal) X j = expR (magMax fun c => X (ix2 (j 0) c)) := by
  have h : k0_pay2 (F := Ideal) X = expVec (shapeCast S32768x1 (multiReduction .maximumf [1] S32768 (absf (k0_pay1 (F := Ideal) X)) 0xFF800000#32 reduces_S32768x7168_S32768 (.inl rfl) rfl) shapeCasts_S32768_S32768x1) := rfl
  rw [h, expVec_row]
  refine congrArg expR ((max_row (n := 7168) (k0_pay1 (F := Ideal) X) reduces_S32768x7168_S32768 j).trans ?_)
  unfold k0_pay1
  simp only [shapeCast_self]
  rfl

/-- The scale of a row of the activations. -/
theorem pay3 (X : S32768x7168.Idx → EReal) (j : S32768x1.Idx) :
    k0_pay3 (F := Ideal) X j = scaleR fun c => X (ix2 (j 0) c) := by
  have h : k0_pay3 (F := Ideal) X j = pow2 (k0_pay2 (F := Ideal) X j) := rfl
  rw [h, pay2]
  rfl

/-- The codes of the activations. -/
theorem pay4 (X : S32768x7168.Idx → EReal) (j : S32768x7168.Idx) :
    k0_pay4 (F := Ideal) X j = codesR (fun c => X (ix2 (j 0) c)) (j 1) := by
  unfold k0_pay4 k0_pay1
  simp only [shapeCast_self]
  pointwise [pay2]
  exact Eq.trans (b := code (X j) (pow2 (IntOp.subi 0#32 (expR (magMax fun c => X (ix2 (j 0) c)))))) rfl
    (congrArg (fun v => code v (pow2 (IntOp.subi 0#32 (expR (magMax fun c => X (ix2 (j 0) c)))))) (congrArg X (ix2_eq j).symm))

/-- A row of the first output, of the scales and the codes. -/
def hOf (s : S32768x1.Idx → EReal) (q : S32768x7168.Idx → EReal) (W : S4608x7168.Idx → EReal) (Ws G : S1x4608.Idx → EReal) (R : S32768x4608.Idx → EReal)
    (r : Fin 32768) : Fin 4608 → EReal :=
  let y : Fin 4608 → EReal := fun n => (∑ k, q (ix2 r k) * W (ix2 n k)) * s (ix2 r 0) * Ws (ix2 0 n)
  fun n => y n * rinvR y * (1 + G (ix2 0 n)) + R (ix2 r n)

/-- The first output, of the scales and the codes. -/
theorem pay5 (s : S32768x1.Idx → EReal) (q : S32768x7168.Idx → EReal) (W : S4608x7168.Idx → EReal) (Ws G : S1x4608.Idx → EReal) (R : S32768x4608.Idx → EReal)
    (j : S32768x4608.Idx) :
    k0_pay5 (F := Ideal) s q W (constant S32768x4608 .f32 0x00000000#32) Ws G R j = hOf s q W Ws G R (j 0) (j 1) := by
  unfold k0_pay5 hOf rinvR
  simp only [shapeCast_self]
  pointwise

/-- The second normalisation before its weights. -/
theorem pay6 (s : S32768x1.Idx → EReal) (q : S32768x7168.Idx → EReal) (W : S4608x7168.Idx → EReal) (Ws G : S1x4608.Idx → EReal) (R : S32768x4608.Idx → EReal)
    (j : S32768x4608.Idx) :
    k0_pay6 (F := Ideal) s q W (constant S32768x4608 .f32 0x00000000#32) Ws G R j = hOf s q W Ws G R (j 0) (j 1) * rinvR (hOf s q W Ws G R (j 0)) := by
  unfold k0_pay6 rinvR
  pointwise [pay5]

/-- The second normalisation's weights. -/
theorem pay7 (P : S1x4608.Idx → EReal) (j : S32768x4608.Idx) : k0_pay7 (F := Ideal) P j = 1 + P (ix2 0 (j 1)) := by
  unfold k0_pay7
  simp only [shapeCast_self]
  pointwise
  try rfl

/-- The exponent of a row of the second normalisation. -/
theorem pay9 (u v : S32768x4608.Idx → EReal) (j : S32768x1.Idx) :
    k0_pay9 (F := Ideal) u v j = expR (magMax fun c => u (ix2 (j 0) c) * v (ix2 (j 0) c)) := by
  have h : k0_pay9 (F := Ideal) u v = expVec (shapeCast S32768x1 (multiReduction .maximumf [1] S32768 (absf (k0_pay8 (F := Ideal) u v)) 0xFF800000#32 reduces_S32768x4608_S32768 (.inl rfl) rfl) shapeCasts_S32768_S32768x1) := rfl
  rw [h, expVec_row]
  exact congrArg expR (max_row (n := 4608) (k0_pay8 (F := Ideal) u v) reduces_S32768x4608_S32768 j)

/-- Its scale. -/
theorem pay10 (u v : S32768x4608.Idx → EReal) (j : S32768x1.Idx) :
    k0_pay10 (F := Ideal) u v j = scaleR fun c => u (ix2 (j 0) c) * v (ix2 (j 0) c) := by
  have h : k0_pay10 (F := Ideal) u v j = pow2 (k0_pay9 (F := Ideal) u v j) := rfl
  rw [h, pay9]
  rfl

/-- Its codes. -/
theorem pay11 (u v : S32768x4608.Idx → EReal) (j : S32768x4608.Idx) :
    k0_pay11 (F := Ideal) u v j = codesR (fun c => u (ix2 (j 0) c) * v (ix2 (j 0) c)) (j 1) := by
  unfold k0_pay11 k0_pay8
  pointwise [pay9]
  exact Eq.trans (b := code (u j * v j) (pow2 (IntOp.subi 0#32 (expR (magMax fun c => u (ix2 (j 0) c) * v (ix2 (j 0) c)))))) rfl
    (congrArg (fun a => code a (pow2 (IntOp.subi 0#32 (expR (magMax fun c => u (ix2 (j 0) c) * v (ix2 (j 0) c)))))) (congrArg (fun i => u i * v i) (ix2_eq j).symm))

end Cert.ReferenceIdeal.Val
-- ==== Proof.RefArrays.lean ====
module

public import proofs.«01_k».proof.Proof.RefVal

@[expose] public section

set_option maxRecDepth 16384

noncomputable section

namespace Cert.ReferenceIdeal.Val

open Cert.ReferenceIdeal Cert.ReferenceIdeal.Gen Cert.Spec Idealize.ShloMosaic Idealize.ShloMosaic.TcCoe Idealize.ShloMosaic.Tactic

/-! What the reference's arrays hold after the run. -/

variable (m : (ℓ : Loc nD τ sig) → Buf (Elt Ideal) ℓ) (c : Dev nD)

/-- Each array is one block. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

/-- The six inputs as the body finds them. -/
abbrev aX : S32768x7168.Idx → EReal := V m c main_v0
/-- The residual. -/
abbrev aR : S32768x4608.Idx → EReal := V m c main_v1
/-- The weight. -/
abbrev aW : S4608x7168.Idx → EReal := V m c main_arg2
/-- The weight's scales. -/
abbrev aWs : S1x4608.Idx → EReal := V m c main_v2
/-- The first gain. -/
abbrev aG : S1x4608.Idx → EReal := V m c main_v3
/-- The second gain. -/
abbrev aP : S1x4608.Idx → EReal := V m c main_v4

/-- The body reads the whole of the activations. -/
theorem blk0 (x : S32768x7168.Idx) : iblk m c 0 t0_0 x = aX m c x := by
  blk_ext [iblk, idx t0_0]
/-- The body reads the whole residual. -/
theorem blk1 (x : S32768x4608.Idx) : iblk m c 1 t0_0 x = aR m c x := by
  blk_ext [iblk, idx t0_0]
/-- The body reads the whole weight. -/
theorem blk2 (x : S4608x7168.Idx) : iblk m c 2 t0_0 x = aW m c x := by
  blk_ext [iblk, idx t0_0]
/-- The body reads all of the weight's scales. -/
theorem blk3 (x : S1x4608.Idx) : iblk m c 3 t0_0 x = aWs m c x := by
  blk_ext [iblk, idx t0_0]
/-- The body reads the whole first gain. -/
theorem blk4 (x : S1x4608.Idx) : iblk m c 4 t0_0 x = aG m c x := by
  blk_ext [iblk, idx t0_0]
/-- The body reads the whole second gain. -/
theorem blk5 (x : S1x4608.Idx) : iblk m c 5 t0_0 x = aP m c x := by
  blk_ext [iblk, idx t0_0]

/-! The body's five outputs, as functions of whole inputs. -/

/-- The first output. -/
def fH (x0 : S32768x7168.Idx → EReal) (x1 : S32768x4608.Idx → EReal) (x2 : S4608x7168.Idx → EReal) (x3 x4 : S1x4608.Idx → EReal) (r : Fin 32768) :
    Fin 4608 → EReal :=
  hrowR (fun k => x0 (ix2 r k)) (fun n k => x2 (ix2 n k)) (fun n => x3 (ix2 0 n)) (fun n => x4 (ix2 0 n)) (fun n => x1 (ix2 r n))

/-- The second normalisation. -/
def fZ (x0 : S32768x7168.Idx → EReal) (x1 : S32768x4608.Idx → EReal) (x2 : S4608x7168.Idx → EReal) (x3 x4 x5 : S1x4608.Idx → EReal) (r : Fin 32768) :
    Fin 4608 → EReal :=
  zrowR (fH x0 x1 x2 x3 x4 r) (fun n => x5 (ix2 0 n))

section
variable (x0 : S32768x7168.Idx → EReal) (x1 : S32768x4608.Idx → EReal) (x2 : S4608x7168.Idx → EReal) (x3 x4 x5 : S1x4608.Idx → EReal)

/-- The stored codes of the activations are those computed first. -/
theorem p13 : k0_pay13 (F := Ideal) x0 x1 x2 x3 x4 x5 = k0_pay3 (F := Ideal) x0 := by
  unfold k0_pay13; refine congrArg (k0_pay3 (F := Ideal)) (funext fun y => ?_); pointwise
/-- The stored scales of the activations are those computed first. -/
theorem p14 : k0_pay14 (F := Ideal) x0 x1 x2 x3 x4 x5 = k0_pay4 (F := Ideal) x0 := by
  unfold k0_pay14; refine congrArg (k0_pay4 (F := Ideal)) (funext fun y => ?_); pointwise
/-- An index of a one-row array is its column. -/
theorem unit_row (y : S1x4608.Idx) : (ix2 0 (y 1) : S1x4608.Idx) = y := by
  funext a; fin_cases a
  · exact Subsingleton.elim (α := Fin 1) _ _
  · rfl
/-- A load of the whole residual is the residual. -/
theorem l0 : View.ld (Val := Elt Ideal) (e' := .bf16) x1 r0_3 = x1 := funext fun y => by pointwise
/-- A load of the whole weight is the weight. -/
theorem l1 : View.ld (Val := Elt Ideal) (e' := .fp8e4m3) x2 r0_1 = x2 := funext fun y => by pointwise
/-- A load of all the weight's scales is those scales. -/
theorem l2 : View.ld (Val := Elt Ideal) (e' := .f32) x3 r0_2 = x3 := funext fun y => by
  pointwise
  exact congrArg x3 (unit_row y)
/-- The second gain's factor is read from the whole second gain. -/
theorem p16 : k0_pay16 (F := Ideal) x0 x1 x2 x3 x4 x5 = k0_pay7 (F := Ideal) x5 := by
  unfold k0_pay16; refine congrArg (k0_pay7 (F := Ideal)) (l2 x5)

/-- The first output from the scales and codes is the row function of the inputs. -/
theorem hOf_eq (r : Fin 32768) :
    hOf (k0_pay3 (F := Ideal) x0) (k0_pay4 (F := Ideal) x0) x2 x3 x4 x1 r = fH x0 x1 x2 x3 x4 r := by
  unfold hOf
  simp only [pay3, pay4]
  rfl

/-- The first output times its row's reciprocal root. -/
theorem p15 (y : S32768x4608.Idx) :
    k0_pay15 (F := Ideal) x0 x1 x2 x3 x4 x5 y = fH x0 x1 x2 x3 x4 (y 0) (y 1) * rinvR (fH x0 x1 x2 x3 x4 (y 0)) := by
  unfold k0_pay15
  rw [p13, p14, l0, l1, l2, l2]
  refine (pay6 _ _ _ _ _ _ y).trans ?_
  exact congrArg (fun f : Fin 4608 → EReal => f (y 1) * rinvR f) (hOf_eq x0 x1 x2 x3 x4 (y 0))

/-- The second normalisation, of the body's values. -/
theorem z_eq (r : Fin 32768) :
    (fun n : Fin 4608 => k0_pay15 (F := Ideal) x0 x1 x2 x3 x4 x5 (ix2 r n) * k0_pay16 (F := Ideal) x0 x1 x2 x3 x4 x5 (ix2 r n)) = fZ x0 x1 x2 x3 x4 x5 r := by
  funext n
  rw [p15, p16, pay7]
  rfl

/-- What the body leaves in the first output. -/
theorem out6 (y : S32768x4608.Idx) : out0_6 (F := Ideal) x0 x1 x2 x3 x4 x5 y = fH x0 x1 x2 x3 x4 (y 0) (y 1) := by
  frame_out
  rw [p13, p14]
  exact (pay5 _ _ _ _ _ _ y).trans (congrFun (hOf_eq x0 x1 x2 x3 x4 (y 0)) (y 1))
/-- What it leaves in the codes of the activations. -/
theorem out7 (y : S32768x7168.Idx) : out0_7 (F := Ideal) x0 x1 x2 x3 x4 x5 y = codesR (fun k => x0 (ix2 (y 0) k)) (y 1) := by
  frame_out
  rw [p14, pay4]
/-- What it leaves in the scales of the activations. -/
theorem out8 (y : S32768x1.Idx) : out0_8 (F := Ideal) x0 x1 x2 x3 x4 x5 y = scaleR (fun k => x0 (ix2 (y 0) k)) := by
  frame_out
  rw [p13, pay3]
/-- What it leaves in the codes of the second normalisation. -/
theorem out9 (y : S32768x4608.Idx) : out0_9 (F := Ideal) x0 x1 x2 x3 x4 x5 y = codesR (fZ x0 x1 x2 x3 x4 x5 (y 0)) (y 1) := by
  frame_out
  exact (pay11 _ _ y).trans (congrArg (fun f : Fin 4608 → EReal => codesR f (y 1)) (z_eq x0 x1 x2 x3 x4 x5 (y 0)))
/-- What it leaves in the scales of the second normalisation. -/
theorem out10 (y : S32768x1.Idx) : out0_10 (F := Ideal) x0 x1 x2 x3 x4 x5 y = scaleR (fZ x0 x1 x2 x3 x4 x5 (y 0)) := by
  frame_out
  exact (pay10 _ _ y).trans (congrArg (fun f : Fin 4608 → EReal => scaleR f) (z_eq x0 x1 x2 x3 x4 x5 (y 0)))
end

/-- The array of output 0. -/
theorem final6 : (dats m 0 c).arrAt 6 (cfgs 0).N = fun y : S32768x4608.Idx => fH (aX m c) (aR m c) (aW m c) (aWs m c) (aG m c) (y 0) (y 1) := by
  refine (dats m 0 c).arrAt_eq_of_after_last 6 t0_0 (by decide +kernel) _ fun j => ?_
  blk_simp
  rw [after0_6, show iblk m c 0 t0_0 = aX m c from funext (blk0 m c), show iblk m c 1 t0_0 = aR m c from funext (blk1 m c), show iblk m c 2 t0_0 = aW m c from funext (blk2 m c), show iblk m c 3 t0_0 = aWs m c from funext (blk3 m c), show iblk m c 4 t0_0 = aG m c from funext (blk4 m c), show iblk m c 5 t0_0 = aP m c from funext (blk5 m c)]
  exact out6 _ _ _ _ _ _ j

/-- The array of output 1. -/
theorem final7 : (dats m 0 c).arrAt 7 (cfgs 0).N = fun y : S32768x7168.Idx => codesR (fun k => aX m c (ix2 (y 0) k)) (y 1) := by
  refine (dats m 0 c).arrAt_eq_of_after_last 7 t0_0 (by decide +kernel) _ fun j => ?_
  blk_simp
  rw [after0_7, show iblk m c 0 t0_0 = aX m c from funext (blk0 m c), show iblk m c 1 t0_0 = aR m c from funext (blk1 m c), show iblk m c 2 t0_0 = aW m c from funext (blk2 m c), show iblk m c 3 t0_0 = aWs m c from funext (blk3 m c), show iblk m c 4 t0_0 = aG m c from funext (blk4 m c), show iblk m c 5 t0_0 = aP m c from funext (blk5 m c)]
  exact out7 _ _ _ _ _ _ j

/-- The array of output 2. -/
theorem final8 : (dats m 0 c).arrAt 8 (cfgs 0).N = fun y : S32768x1.Idx => scaleR (fun k => aX m c (ix2 (y 0) k)) := by
  refine (dats m 0 c).arrAt_eq_of_after_last 8 t0_0 (by decide +kernel) _ fun j => ?_
  blk_simp
  rw [after0_8, show iblk m c 0 t0_0 = aX m c from funext (blk0 m c), show iblk m c 1 t0_0 = aR m c from funext (blk1 m c), show iblk m c 2 t0_0 = aW m c from funext (blk2 m c), show iblk m c 3 t0_0 = aWs m c from funext (blk3 m c), show iblk m c 4 t0_0 = aG m c from funext (blk4 m c), show iblk m c 5 t0_0 = aP m c from funext (blk5 m c)]
  exact out8 _ _ _ _ _ _ j

/-- The array of output 3. -/
theorem final9 : (dats m 0 c).arrAt 9 (cfgs 0).N = fun y : S32768x4608.Idx => codesR (fZ (aX m c) (aR m c) (aW m c) (aWs m c) (aG m c) (aP m c) (y 0)) (y 1) := by
  refine (dats m 0 c).arrAt_eq_of_after_last 9 t0_0 (by decide +kernel) _ fun j => ?_
  blk_simp
  rw [after0_9, show iblk m c 0 t0_0 = aX m c from funext (blk0 m c), show iblk m c 1 t0_0 = aR m c from funext (blk1 m c), show iblk m c 2 t0_0 = aW m c from funext (blk2 m c), show iblk m c 3 t0_0 = aWs m c from funext (blk3 m c), show iblk m c 4 t0_0 = aG m c from funext (blk4 m c), show iblk m c 5 t0_0 = aP m c from funext (blk5 m c)]
  exact out9 _ _ _ _ _ _ j

/-- The array of output 4. -/
theorem final10 : (dats m 0 c).arrAt 10 (cfgs 0).N = fun y : S32768x1.Idx => scaleR (fZ (aX m c) (aR m c) (aW m c) (aWs m c) (aG m c) (aP m c) (y 0)) := by
  refine (dats m 0 c).arrAt_eq_of_after_last 10 t0_0 (by decide +kernel) _ fun j => ?_
  blk_simp
  rw [after0_10, show iblk m c 0 t0_0 = aX m c from funext (blk0 m c), show iblk m c 1 t0_0 = aR m c from funext (blk1 m c), show iblk m c 2 t0_0 = aW m c from funext (blk2 m c), show iblk m c 3 t0_0 = aWs m c from funext (blk3 m c), show iblk m c 4 t0_0 = aG m c from funext (blk4 m c), show iblk m c 5 t0_0 = aP m c from funext (blk5 m c)]
  exact out10 _ _ _ _ _ _ j

end Cert.ReferenceIdeal.Val
-- ==== Proof.Expo.lean ====
module

public import proofs.«01_k».proof.Proof.RefSpec

@[expose] public section

set_option maxRecDepth 16384

noncomputable section

namespace Cert.Spec

open Idealize.ShloMosaic

/-! The kernel's search over exponent fields and the reference's count of powers give the same exponent. -/

/-- Two to an integer, as an extended real. -/
def P (z : ℤ) : EReal := (((2 : ℝ) ^ z : ℝ) : EReal)

/-- Powers of two are ordered as their exponents. -/
theorem P_le {a b : ℤ} : P a ≤ P b ↔ a ≤ b := by
  unfold P
  rw [EReal.coe_le_coe_iff]
  exact zpow_le_zpow_iff_right₀ (by norm_num)

/-- The reference's power is the power of the word's integer. -/
theorem pow2_eq (b : BitVec 32) : pow2 b = P b.toInt := by
  have h : pow2 b = ((Real.rpow 2 ((b.toInt : ℤ) : ℝ) : ℝ) : EReal) := rfl
  rw [h, P]
  exact congrArg _ (Real.rpow_intCast 2 b.toInt)

/-- A field of eight bits, moved up by 23: the sign, the exponent field and the fraction of the word. -/
theorem fields : ∀ n : Fin 256, (IntOp.shli .vector (BitVec.ofNat 32 n.val) 23#32).extractLsb' 31 1 = (BitVec.ofNat 1 0)
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

/-- A word whose low eight bits are moved to the exponent field denotes the power of two of that field. -/
theorem bits_shl (n : ℕ) (h1 : 1 ≤ n) (h2 : n ≤ 254) : bits (IntOp.shli .vector (BitVec.ofNat 32 n) 23#32) = P ((n : ℤ) - 127) := by
  obtain ⟨hs, he, hf⟩ := fields ⟨n, by omega⟩
  simp only at hs he hf
  generalize IntOp.shli .vector (BitVec.ofNat 32 n) 23#32 = w at hs he hf ⊢
  show Ideal.ieee 8 23 w = _
  unfold Ideal.ieee
  simp only [hs, he, hf]
  rw [if_neg (by norm_num; omega), if_neg (by omega), P]
  refine congrArg _ ?_
  have e : ((n : ℤ) - (2 ^ (8 - 1) - 1) - (23 : ℕ)) = ((n : ℤ) - 127) - 23 := by norm_num
  rw [e, zpow_sub₀ (by norm_num : (2 : ℝ) ≠ 0) _ 23]
  norm_num
  ring

/-- The top field is infinite. -/
theorem bits_shl_top : bits (IntOp.shli .vector 255#32 23#32) = ⊤ := by
  have hw : IntOp.shli .vector 255#32 23#32 = 2139095040#32 := by decide
  rw [hw]
  simp [Ideal.ofBits, Ideal.ieee]

open Classical in
/-- The number of normal powers of two, up to `2 ^ 127`, that are at most `v`. -/
def cnt (v : EReal) : ℕ := ((Finset.range 254).filter fun k : ℕ => P ((k : ℤ) - 126) ≤ v).card

/-- At most 254 powers are counted. -/
theorem cnt_le (v : EReal) : cnt v ≤ 254 := by
  unfold cnt
  exact (Finset.card_filter_le _ _).trans (by simp)

/-- A power is at most `v` exactly when its number is below the count. -/
theorem lt_cnt (v : EReal) (k : ℕ) (hk : k < 254) : k < cnt v ↔ P ((k : ℤ) - 126) ≤ v := by
  classical
  constructor
  · intro h
    by_contra hn
    have hs : ((Finset.range 254).filter fun k : ℕ => P ((k : ℤ) - 126) ≤ v) ⊆ Finset.range k := by
      intro j hj
      have hj := (Finset.mem_filter.mp hj).2
      by_contra hjk
      have hkj : k ≤ j := Nat.le_of_not_lt fun hl => hjk (Finset.mem_range.mpr hl)
      exact hn ((P_le.mpr (by omega)).trans hj)
    have := Finset.card_le_card hs
    rw [Finset.card_range] at this
    unfold cnt at h
    omega
  · intro h
    have hs : Finset.range (k + 1) ⊆ ((Finset.range 254).filter fun k : ℕ => P ((k : ℤ) - 126) ≤ v) := by
      intro j hj
      have hj := Finset.mem_range.mp hj
      exact Finset.mem_filter.mpr ⟨Finset.mem_range.mpr (by omega), (P_le.mpr (by omega)).trans h⟩
    have := Finset.card_le_card hs
    rw [Finset.card_range] at this
    unfold cnt
    exact this

/-- A sum of bits, as words, is the number of members that satisfy the condition. -/
theorem fold_count {ι : Type} (S : Finset ι) (p : ι → Prop) [DecidablePred p] :
    (S.fold IntOp.addi 0#32 fun k => BitVec.setWidth 32 (BitVec.ofBool (decide (p k)))) = BitVec.ofNat 32 (S.filter p).card := by
  classical
  induction S using Finset.induction_on with
  | empty => rfl
  | insert a S ha ih =>
    rw [Finset.fold_insert ha, ih, Finset.filter_insert]
    by_cases h : p a
    · rw [if_pos h, Finset.card_insert_of_notMem (fun hm => ha (Finset.mem_filter.mp hm).1)]
      simp only [h, decide_true]
      show BitVec.setWidth 32 (BitVec.ofBool true) + BitVec.ofNat 32 _ = _
      apply BitVec.eq_of_toNat_eq
      simp [BitVec.toNat_add, Nat.add_comm]
    · rw [if_neg h]
      simp only [h, decide_false]
      show BitVec.setWidth 32 (BitVec.ofBool false) + BitVec.ofNat 32 _ = _
      apply BitVec.eq_of_toNat_eq
      simp [BitVec.toNat_add]

/-- The exponents the reference lists run from -126. -/
theorem sub_toInt : ∀ k : Fin 254, (IntOp.subi (BitVec.ofNat 32 k.val) 126#32).toInt = (k.val : ℤ) - 126 := by decide +kernel

/-- The reference's count is that number. -/
theorem countR_eq (v : EReal) : countR v = BitVec.ofNat 32 (cnt v) := by
  classical
  unfold countR
  refine (fold_count Finset.univ fun k : Fin 254 => pow2 (IntOp.subi (BitVec.ofNat 32 k.val) 126#32) ≤ v).trans ?_
  refine congrArg (BitVec.ofNat 32) ?_
  unfold cnt
  rw [Finset.card_filter, Finset.card_filter, Finset.sum_range]
  refine Finset.sum_congr rfl fun k _ => ?_
  have e : pow2 (IntOp.subi (BitVec.ofNat 32 k.val) 126#32) = P ((k.val : ℤ) - 126) := (pow2_eq _).trans (congrArg P (sub_toInt k))
  exact if_congr (iff_of_eq (congrArg (· ≤ v) e)) rfl rfl

end Cert.Spec
-- ==== Proof.Quant.lean ====
module

public import proofs.«01_k».proof.Proof.Expo

@[expose] public section

set_option maxRecDepth 16384

noncomputable section

namespace Cert.Spec

open Idealize.ShloMosaic

/-! The kernel's scale and reciprocal scale are the reference's, below `2 ^ 126`. -/

/-- One step of the search, on the count. -/
def stepN (N k s : ℕ) : ℕ := if N < k + s then k else k + s

/-- The search, on the count. -/
def searchN (N : ℕ) : ℕ := stepN N (stepN N (stepN N (stepN N (stepN N (stepN N (stepN N (stepN N 0 128) 64) 32) 16) 8) 4) 2) 1

/-- The search on numbers finds the number. -/
theorem searchN_eq : ∀ N : Fin 255, searchN N.val = N.val := by decide +kernel

/-- The comparison of a step asks whether the count is below the field tried. -/
theorem lt_bits (a : EReal) (ha : a ≠ ⊤) (n : ℕ) (h1 : 1 ≤ n) (h2 : n ≤ 255) :
    a < bits (IntOp.shli .vector (BitVec.ofNat 32 n) 23#32) ↔ cnt a < n := by
  rcases Nat.lt_or_ge n 255 with h | h
  · rw [bits_shl n h1 (by omega), ← not_le, show (n : ℤ) - 127 = ((n - 1 : ℕ) : ℤ) - 126 by omega, ← lt_cnt a (n - 1) (by omega)]
    omega
  · obtain rfl : n = 255 := by omega
    have e : bits (IntOp.shli .vector (BitVec.ofNat 32 255) 23#32) = ⊤ := bits_shl_top
    rw [e]
    exact ⟨fun _ => Nat.lt_succ_of_le (cnt_le a), fun _ => lt_top_iff_ne_top.mpr ha⟩

/-- A step of the kernel's search is a step on the count, and leaves room for the next. -/
theorem step_eq (a : EReal) (ha : a ≠ ⊤) (k s : ℕ) (hs : 1 ≤ s) (h : k + 2 * s ≤ 256) :
    step a (BitVec.ofNat 32 k) (BitVec.ofNat 32 s) = BitVec.ofNat 32 (stepN (cnt a) k s) ∧ stepN (cnt a) k s + s ≤ 256 := by
  have ea : IntOp.addi (BitVec.ofNat 32 k) (BitVec.ofNat 32 s) = BitVec.ofNat 32 (k + s) := (BitVec.ofNat_add k s).symm
  have hl := lt_bits a ha (k + s) (by omega) (by omega)
  unfold step stepN
  rw [ea]
  have ec : FloatOps.cmpf (F := Ideal) (φ := .f32) .olt a (bits (IntOp.shli .vector (BitVec.ofNat 32 (k + s)) 23#32))
      = BitVec.ofBool (decide (a < bits (IntOp.shli .vector (BitVec.ofNat 32 (k + s)) 23#32))) := rfl
  rw [ec]
  by_cases hc : cnt a < k + s
  · rw [if_pos hc, decide_eq_true (hl.mpr hc)]
    exact ⟨rfl, by omega⟩
  · rw [if_neg hc, decide_eq_false fun h => hc (hl.mp h)]
    exact ⟨rfl, by omega⟩

/-- The field the kernel finds is the count. -/
theorem field_eq (a : EReal) (ha : a ≠ ⊤) : field a = BitVec.ofNat 32 (cnt a) := by
  obtain ⟨e1, h1⟩ := step_eq a ha 0 128 (by omega) (by omega)
  obtain ⟨e2, h2⟩ := step_eq a ha _ 64 (by omega) (by omega : stepN (cnt a) 0 128 + 2 * 64 ≤ 256)
  obtain ⟨e3, h3⟩ := step_eq a ha _ 32 (by omega) (by omega : _ + 2 * 32 ≤ 256)
  obtain ⟨e4, h4⟩ := step_eq a ha _ 16 (by omega) (by omega : _ + 2 * 16 ≤ 256)
  obtain ⟨e5, h5⟩ := step_eq a ha _ 8 (by omega) (by omega : _ + 2 * 8 ≤ 256)
  obtain ⟨e6, h6⟩ := step_eq a ha _ 4 (by omega) (by omega : _ + 2 * 4 ≤ 256)
  obtain ⟨e7, h7⟩ := step_eq a ha _ 2 (by omega) (by omega : _ + 2 * 2 ≤ 256)
  obtain ⟨e8, h8⟩ := step_eq a ha _ 1 (by omega) (by omega : _ + 2 * 1 ≤ 256)
  unfold field
  rw [e1, e2, e3, e4, e5, e6, e7, e8]
  exact congrArg _ (searchN_eq ⟨cnt a, Nat.lt_succ_of_le (cnt_le a)⟩)

/-- The exponent of a count. -/
def expN (N : ℕ) : BitVec 32 := if N = 0 then 0#32 else IntOp.subi (BitVec.ofNat 32 N) 126#32

/-- The field of the scale, and of its reciprocal. -/
def fieldS (N : ℕ) : ℕ := if N = 0 then 127 else N + 1
/-- The exponent field of the kernel's reciprocal scale, for `N` powers counted. -/
def fieldI (N : ℕ) : ℕ := if N = 0 then 127 else 253 - N

/-- The kernel's words for the scale and its reciprocal, for `N` powers counted. -/
theorem expo_words : ∀ N : Fin 253,
    IntOp.addi (expo (BitVec.ofNat 32 N.val)) 127#32 = BitVec.ofNat 32 (fieldS N.val)
    ∧ IntOp.subi 127#32 (expo (BitVec.ofNat 32 N.val)) = BitVec.ofNat 32 (fieldI N.val)
    ∧ (1 ≤ fieldS N.val ∧ fieldS N.val ≤ 254 ∧ 1 ≤ fieldI N.val ∧ fieldI N.val ≤ 254)
    ∧ (expN N.val).toInt = (fieldS N.val : ℤ) - 127
    ∧ (IntOp.subi 0#32 (expN N.val)).toInt = (fieldI N.val : ℤ) - 127 := by decide +kernel

/-- No power is at most zero. -/
theorem cnt_zero : cnt 0 = 0 := by
  by_contra h
  have h := (lt_cnt 0 0 (by omega)).mp (Nat.pos_of_ne_zero h)
  have hp : (0 : EReal) < P (((0 : ℕ) : ℤ) - 126) := by
    unfold P
    exact_mod_cast zpow_pos (by norm_num : (0 : ℝ) < 2) _
  exact absurd h (not_le.mpr hp)

/-- The constant near 1/448. -/
theorem c448 : bits 991054117#32 = ((9586981 / 4294967296 : ℝ) : EReal) := by
  simp [Ideal.ofBits, Ideal.ieee, -EReal.coe_mul]
  norm_num

/-- The reference's exponent, by the count. -/
theorem expR_eq (M : EReal) : expR M = expN (cnt (M * bits 991054117#32)) := by
  have hb : bits 8388608#32 = P (((0 : ℕ) : ℤ) - 126) := by
    have h := bits_shl 1 le_rfl (by omega)
    have hw : IntOp.shli .vector (BitVec.ofNat 32 1) 23#32 = 8388608#32 := by decide
    rw [hw] at h
    rw [h]
    norm_num
  unfold expR expN
  by_cases hM : M = 0
  · rw [if_pos hM, hM, zero_mul, cnt_zero, if_pos rfl]
  · rw [if_neg hM, hb, countR_eq]
    refine if_congr ?_ rfl rfl
    rw [← not_le, ← lt_cnt _ 0 (by omega)]
    omega

/-- The kernel's scale and reciprocal scale are the reference's, where the scaled magnitude is below `2 ^ 126`. -/
theorem quant_eq (M : EReal) (h0 : 0 ≤ M) (hlt : M * bits 991054117#32 < P 126) :
    scaleK (M * bits 991054117#32) = pow2 (expR M) ∧ invK (M * bits 991054117#32) = pow2 (IntOp.subi 0#32 (expR M)) := by
  have hc : (0 : EReal) ≤ bits 991054117#32 := by rw [c448]; exact_mod_cast (by norm_num : (0 : ℝ) ≤ 9586981 / 4294967296)
  have hv : 0 ≤ M * bits 991054117#32 := mul_nonneg h0 hc
  rw [expR_eq, pow2_eq, pow2_eq]
  generalize M * bits 991054117#32 = v at hlt hv ⊢
  have hm : mag v = v := max_eq_left ((EReal.neg_le_neg_iff.mpr hv).trans (by simpa using hv))
  have hN : cnt v < 253 := by
    by_contra h
    have h := (lt_cnt v 252 (by omega)).mp (by omega)
    exact absurd hlt (not_lt.mpr (by simpa using h))
  obtain ⟨w1, w2, ⟨b1, b2, b3, b4⟩, w3, w4⟩ := expo_words ⟨cnt v, hN⟩
  simp only at w1 w2 b1 b2 b3 b4 w3 w4
  unfold scaleK invK
  rw [hm, field_eq v (ne_top_of_lt hlt), w1, w2, w3, w4, bits_shl _ b1 b2, bits_shl _ b3 b4]
  exact ⟨rfl, rfl⟩

end Cert.Spec
-- ==== Proof.RowEq.lean ====
module

public import proofs.«01_k».proof.Proof.Quant

@[expose] public section

set_option maxRecDepth 16384

noncomputable section

namespace Cert.Spec

open Idealize.ShloMosaic

/-! The kernel's row functions are the reference's, on finite activations and finite second weights. -/

/-- A magnitude is not negative. -/
theorem mag_nonneg (v : EReal) : 0 ≤ mag v := by
  rcases le_total 0 v with h | h
  · exact h.trans (le_max_left _ _)
  · exact (by simpa using EReal.neg_le_neg_iff.mpr h : (0 : EReal) ≤ -v).trans (le_max_right _ _)

/-- A row's largest magnitude is not negative. -/
theorem magMax_nonneg {n : ℕ} (hn : 0 < n) (v : Fin n → EReal) : 0 ≤ magMax v :=
  (mag_nonneg (v ⟨0, hn⟩)).trans (Finset.le_sup (f := fun c => mag (v c)) (Finset.mem_univ _))

/-- A magnitude at most a small enough real number, scaled, is below `2 ^ 126`. -/
theorem scaled_lt (M : EReal) (B : ℝ) (h : M ≤ (B : EReal)) (hB : B * (9586981 / 4294967296) < 2 ^ (126 : ℤ)) :
    M * bits 991054117#32 < P 126 := by
  rw [c448]
  refine lt_of_le_of_lt (mul_le_mul_of_nonneg_right h (by exact_mod_cast (by norm_num : (0 : ℝ) ≤ 9586981 / 4294967296))) ?_
  rw [← EReal.coe_mul, P]
  exact_mod_cast hB

section
variable {n : ℕ} (hn : 0 < n) (v : Fin n → EReal) (B : ℝ) (hv : ∀ c, mag (v c) ≤ (B : EReal)) (hB : B * (9586981 / 4294967296) < 2 ^ (126 : ℤ))
include hn hv hB

/-- The kernel's scale of a bounded row is the reference's. -/
theorem scale_row : scaleK (amax v) = scaleR v :=
  (quant_eq (magMax v) (magMax_nonneg hn v) (scaled_lt _ B (Finset.sup_le fun c _ => hv c) hB)).1

/-- The kernel's codes of a bounded row are the reference's. -/
theorem codes_row : codes v = codesR v := by
  funext c
  exact congrArg (code (v c)) (quant_eq (magMax v) (magMax_nonneg hn v) (scaled_lt _ B (Finset.sup_le fun c _ => hv c) hB)).2
end

/-- The product with 1/4608 is the quotient by 4608. -/
theorem rinv_eq (v : Fin 4608 → EReal) : rinv v = rinvR v := by
  have h : bits 1167065088#32 = ((4608 : ℝ) : EReal) := by
    simp [Ideal.ofBits, Ideal.ieee, -EReal.coe_mul]
    norm_num
  unfold rinv rinvR
  rw [h, Ideal.div_coe (by norm_num : (4608 : ℝ) ≠ 0)]

/-- The constant 1. -/
theorem one_eq : bits 1065353216#32 = 1 := Ideal.ofBits_one_f32

/-- The second normalisation of a row is the reference's. -/
theorem zrow_eq (h g : Fin 4608 → EReal) : zrow h g = zrowR h g := by
  funext n
  unfold zrow zrowR
  rw [rinv_eq, one_eq]

/-- The first output of a bounded row. -/
theorem hrow_eq (x : Fin 7168 → EReal) (w : Fin 4608 → Fin 7168 → EReal) (ws gpost resid : Fin 4608 → EReal) (B : ℝ)
    (hv : ∀ c, mag (x c) ≤ (B : EReal)) (hB : B * (9586981 / 4294967296) < 2 ^ (126 : ℤ)) :
    hrow x w ws gpost resid = hrowR x w ws gpost resid := by
  have hy : yrow x w ws = yrowR x w ws := by
    funext n
    unfold yrow yrowR
    rw [codes_row (by norm_num) x B hv hB, scale_row (by norm_num) x B hv hB]
  funext n
  unfold hrow hrowR
  rw [hy, rinv_eq, one_eq]

/-! The second normalisation is bounded, whatever the first output is. -/

/-- A square is not negative. -/
theorem sq_nonneg' (a : EReal) : 0 ≤ a * a := by
  rcases le_total 0 a with h | h
  · exact mul_nonneg h h
  · have h' : 0 ≤ -a := by simpa using EReal.neg_le_neg_iff.mpr h
    have e : a * a = -a * -a := by rw [neg_mul_neg]
    rw [e]
    exact mul_nonneg h' h'

/-- The constant near 1e-6. -/
theorem eps_eq : ∃ e : ℝ, 0 < e ∧ bits 897988541#32 = (e : EReal) := by
  refine ⟨8796093 / 8796093022208, by norm_num, ?_⟩
  simp [Ideal.ofBits, Ideal.ieee, -EReal.coe_mul]
  norm_num

/-- A sum of real numbers, over the extended reals. -/
theorem coe_sum' {ι : Type} (S : Finset ι) (f : ι → ℝ) : (∑ k ∈ S, ((f k : ℝ) : EReal)) = ((∑ k ∈ S, f k : ℝ) : EReal) := by
  classical
  induction S using Finset.induction_on with
  | empty => simp
  | insert a S ha ih => rw [Finset.sum_insert ha, Finset.sum_insert ha, ih, EReal.coe_add]

/-- The magnitude of a real number is its absolute value. -/
theorem mag_coe (a : ℝ) : mag ((a : ℝ) : EReal) = ((|a| : ℝ) : EReal) :=
  (EReal.coe_strictMono.monotone.map_max (a := a) (b := -a)).symm

/-- The reciprocal root of a row of real numbers. -/
theorem rinv_real (f : Fin 4608 → ℝ) (e : ℝ) (he : 0 < e) (hee : bits 897988541#32 = (e : EReal)) :
    rinv (fun k => (f k : EReal)) = (((Real.sqrt ((∑ k, f k * f k) * (1 / 4608) + e))⁻¹ : ℝ) : EReal) := by
  have hs : (0 : ℝ) ≤ ∑ k, f k * f k := Finset.sum_nonneg fun k _ => mul_self_nonneg (f k)
  have hp : 0 < (∑ k, f k * f k) * (1 / 4608 : ℝ) + e := by positivity
  have e1 : (∑ k, ((f k : ℝ) : EReal) * ((f k : ℝ) : EReal)) = ((∑ k, f k * f k : ℝ) : EReal) := by
    rw [← coe_sum' Finset.univ fun k => f k * f k]
    exact Finset.sum_congr rfl fun k _ => (EReal.coe_mul _ _).symm
  unfold rinv
  rw [e1, hee, ← EReal.coe_mul, ← EReal.coe_add]
  show Ideal.rsqrt _ = _
  rw [Ideal.rsqrt_coe, if_neg (not_lt.mpr hp.le), if_neg hp.ne']

/-- The reciprocal root of a row with an infinite member is zero. -/
theorem rinv_infinite (h : Fin 4608 → EReal) (k : Fin 4608) (hk : h k = ⊤ ∨ h k = ⊥) : rinv h = 0 := by
  obtain ⟨e, he, hee⟩ := eps_eq
  have h1 : h k * h k = ⊤ := by
    rcases hk with h | h
    · rw [h]; rfl
    · rw [h]; rfl
  have h2 : (∑ c, h c * h c) = ⊤ :=
    top_le_iff.mp (h1 ▸ Finset.single_le_sum (f := fun c => h c * h c) (fun c _ => sq_nonneg' (h c)) (Finset.mem_univ k))
  unfold rinv
  rw [h2, EReal.top_mul_coe_of_pos (by norm_num), hee, EReal.top_add_coe]
  rfl

/-- A row is of real numbers, or one of its members is infinite. -/
theorem real_or (h : Fin 4608 → EReal) : (∃ f : Fin 4608 → ℝ, h = fun k => (f k : EReal)) ∨ ∃ k, h k = ⊤ ∨ h k = ⊥ := by
  by_cases hf : ∃ k, h k = ⊤ ∨ h k = ⊥
  · exact Or.inr hf
  · refine Or.inl ⟨fun k => (h k).toReal, funext fun k => ?_⟩
    have hk : ¬(h k = ⊤ ∨ h k = ⊥) := fun hk => hf ⟨k, hk⟩
    exact (EReal.coe_toReal (fun e => hk (Or.inl e)) fun e => hk (Or.inr e)).symm

/-- A member of a normalised row is a real number of magnitude at most 68. -/
theorem norm_le (h : Fin 4608 → EReal) (n : Fin 4608) : ∃ a : ℝ, |a| ≤ 68 ∧ h n * rinv h = (a : EReal) := by
  obtain ⟨e, he, hee⟩ := eps_eq
  rcases real_or h with ⟨f, rfl⟩ | ⟨k, hk⟩
  · refine ⟨f n * (Real.sqrt ((∑ k, f k * f k) * (1 / 4608) + e))⁻¹, ?_, ?_⟩
    · have hs : f n * f n ≤ ∑ k, f k * f k :=
        Finset.single_le_sum (f := fun k => f k * f k) (fun k _ => mul_self_nonneg (f k)) (Finset.mem_univ n)
      have hn := mul_self_nonneg (f n)
      have hp : 0 < (∑ k, f k * f k) * (1 / 4608 : ℝ) + e := by
        have : (0 : ℝ) ≤ ∑ k, f k * f k := hn.trans hs
        positivity
      have hq := Real.sqrt_pos.mpr hp
      rw [abs_mul, abs_of_pos (inv_pos.mpr hq), ← div_eq_mul_inv, div_le_iff₀ hq]
      refine abs_le_of_sq_le_sq ?_ (by positivity)
      rw [mul_pow, Real.sq_sqrt hp.le]
      nlinarith
    · rw [rinv_real f e he hee, EReal.coe_mul]
  · refine ⟨0, by norm_num, ?_⟩
    rw [rinv_infinite h k hk, mul_zero]
    rfl

/-- The bound on the second normalisation. -/
theorem z_le (h g : Fin 4608 → EReal) (G : ℝ) (hg : ∀ n, mag (g n) ≤ (G : EReal)) (n : Fin 4608) :
    mag (zrow h g n) ≤ ((68 * (1 + G) : ℝ) : EReal) := by
  obtain ⟨a, ha, e⟩ := norm_le h n
  have hgn := hg n
  have hr : ∃ b : ℝ, g n = (b : EReal) := by
    refine ⟨(g n).toReal, (EReal.coe_toReal (fun e => ?_) fun e => ?_).symm⟩
    · rw [e] at hgn
      exact absurd ((le_max_left _ _).trans hgn) (not_le.mpr (EReal.coe_lt_top G))
    · rw [e] at hgn
      exact absurd ((le_max_right _ _).trans hgn) (not_le.mpr (EReal.coe_lt_top G))
  obtain ⟨b, hb⟩ := hr
  rw [hb, mag_coe, EReal.coe_le_coe_iff] at hgn
  unfold zrow
  rw [e, hb, one_eq, ← EReal.coe_one, ← EReal.coe_add, ← EReal.coe_mul, mag_coe, EReal.coe_le_coe_iff, abs_mul]
  have h1 : |1 + b| ≤ 1 + G := (abs_add_le 1 b).trans (by rw [abs_one]; linarith)
  exact mul_le_mul ha h1 (abs_nonneg _) (by norm_num)

end Cert.Spec
-- ==== Proof.Equation.lean ====
/- The kernel's five arrays are the reference's, on finite activations and finite second weights. -/
module

public import proofs.«01_k».proof.Proof.Arrays
public import proofs.«01_k».proof.Proof.RefArrays
public import proofs.«01_k».proof.Proof.RowEq
public import proofs.«01_k».proof.Pre_finite
public import Idealize.ShloMosaic.Lib.Claim
public import Idealize.ShloMosaic.Lib.ReduceAll

@[expose] public section

set_option maxRecDepth 16384

noncomputable section

namespace Cert.Equation

open Cert.Spec Idealize.ShloMosaic Idealize.ShloMosaic.TcCoe Idealize.ShloMosaic.Tactic

/-- The predicate's shape facts. -/
theorem finite_facts : Cert.Pre_finite.Facts where
  bitsLt_bf16_f32 := by decide
  bcast_S_S4x8192x7168 := by decide
  reducesTo_S4x8192x7168_S_d0_1_2 := by decide
  h_S_ := by decide
  bcast_S_S4608 := by decide
  reducesTo_S4608_S_d0 := by decide

/-- The largest binary32 number. -/
def most : ℝ := 16777215 * 2 ^ 104

/-- The predicate's constant is the largest binary32 number. -/
theorem most_eq : bits 2139095039#32 = (most : EReal) := by
  simp [Ideal.ofBits, Ideal.ieee, most, -EReal.coe_mul]

/-- The largest binary32 number, scaled, is below `2 ^ 126`. -/
theorem most_small : most * (9586981 / 4294967296) < 2 ^ (126 : ℤ) := by
  unfold most
  norm_num

/-- So is the bound of the second normalisation. -/
theorem most_small' : 68 * (1 + most) * (9586981 / 4294967296) < 2 ^ (126 : ℤ) := by
  unfold most
  norm_num

/-- A comparison that is 1 is an inequality. -/
theorem le_of_cmpf (a b : EReal) (h : FloatOps.cmpf (F := Ideal) (φ := .f32) .ole a b = 1#1) : a ≤ b := by
  by_contra hn
  have : FloatOps.cmpf (F := Ideal) (φ := .f32) .ole a b = BitVec.ofBool (decide (a ≤ b)) := rfl
  rw [this, decide_eq_false hn] at h
  exact absurd h (by decide)

/-- Two bits whose conjunction is 1 are 1. -/
theorem and_one (a b : BitVec 1) (h : IntOp.andi a b = 1#1) : a = 1#1 ∧ b = 1#1 := by
  revert a b
  decide

section
variable [Cert.Pre_finite.Facts]
open Cert.Pre_finite Cert.Pre_finite.Facts

/-- Where the predicate holds the activations and the second weights are at most the largest binary32 number in magnitude. -/
theorem finite_le (x0 : FVec Ideal S4x8192x7168 .bf16) (x1 : FVec Ideal S4x8192x4608 .bf16) (x2 : FVec Ideal S4608x7168 .fp8e4m3)
    (x3 x4 x5 : FVec Ideal S4608 .f32) (h : Cert.Pre_finite.fn (F := Ideal) x0 x1 x2 x3 x4 x5 = fun _ => 1#1) :
    (∀ i, mag (x0 i) ≤ (most : EReal)) ∧ ∀ i, mag (x5 i) ≤ (most : EReal) := by
  haveI : Subsingleton S_.Idx := ⟨fun a b => funext fun i => i.elim0⟩
  have h0 := and_one _ _ (congrFun h (fun i => i.elim0))
  refine ⟨fun i => most_eq ▸ ?_, fun i => most_eq ▸ ?_⟩
  · exact le_of_cmpf _ _ (Host.reduce_andi_all _ _ _ _ _ h0.1 i)
  · exact le_of_cmpf _ _ (Host.reduce_andi_all _ _ _ _ _ h0.2 i)
end

/-! Both programs read their six inputs the same way. -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The activations are read alike. -/
theorem aX_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Val.aX m' c = Cert.KernelIdeal.Val.aX m c := by
  unfold Cert.ReferenceIdeal.Val.aX Cert.KernelIdeal.Val.aX
  entry_read
  rw [h]
  rfl

/-- The residual is read alike. -/
theorem aR_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Val.aR m' c = Cert.KernelIdeal.Val.aR m c := by
  unfold Cert.ReferenceIdeal.Val.aR Cert.KernelIdeal.Val.aR
  entry_read
  rw [h]
  rfl

/-- The weight is read alike. -/
theorem aW_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Val.aW m' c = Cert.KernelIdeal.Val.aW m c := by
  unfold Cert.ReferenceIdeal.Val.aW Cert.KernelIdeal.Val.aW
  entry_read
  rw [h]

/-- The weight's scales are read alike. -/
theorem aWs_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Val.aWs m' c = Cert.KernelIdeal.Val.aWs m c := by
  unfold Cert.ReferenceIdeal.Val.aWs Cert.KernelIdeal.Val.aWs
  entry_read
  rw [h]
  rfl

/-- The first gain is read alike. -/
theorem aG_eq (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Val.aG m' c = Cert.KernelIdeal.Val.aG m c := by
  unfold Cert.ReferenceIdeal.Val.aG Cert.KernelIdeal.Val.aG
  entry_read
  rw [h]
  rfl

/-- The second gain is read alike. -/
theorem aP_eq (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Val.aP m' c = Cert.KernelIdeal.Val.aP m c := by
  unfold Cert.ReferenceIdeal.Val.aP Cert.KernelIdeal.Val.aP
  entry_read
  rw [h]
  rfl

/-- The activations as the kernel reads them are bounded where the argument is. -/
theorem aX_le (h : ∀ i : Cert.KernelIdeal.S4x8192x7168.Idx, mag (m ((c.tc : Thread Cert.KernelIdeal.nD Cert.KernelIdeal.τ).loc Cert.KernelIdeal.main_arg0) i) ≤ (most : EReal)) (y) :
    mag (Cert.KernelIdeal.Val.aX m c y) ≤ (most : EReal) := by
  unfold Cert.KernelIdeal.Val.aX
  entry_read
  exact h _

/-- The second weights as the kernel reads them are bounded where the argument is. -/
theorem aP_le (h : ∀ i : Cert.KernelIdeal.S4608.Idx, mag (m ((c.tc : Thread Cert.KernelIdeal.nD Cert.KernelIdeal.τ).loc Cert.KernelIdeal.main_arg5) i) ≤ (most : EReal)) (y) :
    mag (Cert.KernelIdeal.Val.aP m c y) ≤ (most : EReal) := by
  unfold Cert.KernelIdeal.Val.aP
  entry_read
  exact h _

/-! The five outputs, on memories that agree on the arguments. -/

section
variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (hx : ∀ i : Cert.KernelIdeal.S4x8192x7168.Idx, mag (m ((c.tc : Thread Cert.KernelIdeal.nD Cert.KernelIdeal.τ).loc Cert.KernelIdeal.main_arg0) i) ≤ (most : EReal))
  (hp : ∀ i : Cert.KernelIdeal.S4608.Idx, mag (m ((c.tc : Thread Cert.KernelIdeal.nD Cert.KernelIdeal.τ).loc Cert.KernelIdeal.main_arg5) i) ≤ (most : EReal))

include h0 h1 h2 h3 h4 hx in
/-- A row of the first output is the same. -/
theorem fH_eq (r : Fin 32768) :
    Cert.ReferenceIdeal.Val.fH (Cert.ReferenceIdeal.Val.aX m' c) (Cert.ReferenceIdeal.Val.aR m' c) (Cert.ReferenceIdeal.Val.aW m' c) (Cert.ReferenceIdeal.Val.aWs m' c) (Cert.ReferenceIdeal.Val.aG m' c) r
      = Cert.KernelIdeal.Val.fH (Cert.KernelIdeal.Val.aX m c) (Cert.KernelIdeal.Val.aR m c) (Cert.KernelIdeal.Val.aW m c) (Cert.KernelIdeal.Val.aWs m c) (Cert.KernelIdeal.Val.aG m c) r := by
  rw [aX_eq m m' c h0, aR_eq m m' c h1, aW_eq m m' c h2, aWs_eq m m' c h3, aG_eq m m' c h4]
  exact (hrow_eq _ _ _ _ _ most (fun k => aX_le m c hx _) most_small).symm

include h0 h1 h2 h3 h4 h5 hx in
/-- A row of the second normalisation is the same. -/
theorem fZ_eq (r : Fin 32768) :
    Cert.ReferenceIdeal.Val.fZ (Cert.ReferenceIdeal.Val.aX m' c) (Cert.ReferenceIdeal.Val.aR m' c) (Cert.ReferenceIdeal.Val.aW m' c) (Cert.ReferenceIdeal.Val.aWs m' c) (Cert.ReferenceIdeal.Val.aG m' c) (Cert.ReferenceIdeal.Val.aP m' c) r
      = Cert.KernelIdeal.Val.fZ (Cert.KernelIdeal.Val.aX m c) (Cert.KernelIdeal.Val.aR m c) (Cert.KernelIdeal.Val.aW m c) (Cert.KernelIdeal.Val.aWs m c) (Cert.KernelIdeal.Val.aG m c) (Cert.KernelIdeal.Val.aP m c) r := by
  unfold Cert.ReferenceIdeal.Val.fZ Cert.KernelIdeal.Val.fZ
  rw [fH_eq m m' c h0 h1 h2 h3 h4 hx r, aP_eq m m' c h5]
  exact (zrow_eq _ _).symm

include hp in
/-- A row of the second normalisation is bounded. -/
theorem fZ_le (r : Fin 32768) (n : Fin 4608) :
    mag (Cert.KernelIdeal.Val.fZ (Cert.KernelIdeal.Val.aX m c) (Cert.KernelIdeal.Val.aR m c) (Cert.KernelIdeal.Val.aW m c) (Cert.KernelIdeal.Val.aWs m c) (Cert.KernelIdeal.Val.aG m c) (Cert.KernelIdeal.Val.aP m c) r n)
      ≤ ((68 * (1 + most) : ℝ) : EReal) :=
  z_le _ _ most (fun k => aP_le m c hp _) n

include h0 h1 h2 h3 h4 hx in
/-- The first output is the same. -/
theorem out6 : (Cert.ReferenceIdeal.Gen.dats m' 0 c).arrAt 6 (Cert.ReferenceIdeal.cfgs 0).N = (Cert.KernelIdeal.Val.dats m 0 c).arrAt 6 (Cert.KernelIdeal.cfgs 0).N := by
  refine (Cert.ReferenceIdeal.Val.final6 m' c).trans (Eq.trans ?_ (Cert.KernelIdeal.Val.final6 m c).symm)
  funext y
  exact congrArg (fun f : Fin 4608 → EReal => f (y 1)) (fH_eq m m' c h0 h1 h2 h3 h4 hx (y 0))

include h0 hx in
/-- The codes of the activations are the same. -/
theorem out7 : (Cert.ReferenceIdeal.Gen.dats m' 0 c).arrAt 7 (Cert.ReferenceIdeal.cfgs 0).N = (Cert.KernelIdeal.Val.dats m 0 c).arrAt 7 (Cert.KernelIdeal.cfgs 0).N := by
  refine (Cert.ReferenceIdeal.Val.final7 m' c).trans (Eq.trans ?_ (Cert.KernelIdeal.Val.final7 m c).symm)
  rw [aX_eq m m' c h0]
  funext y
  exact congrArg (fun f : Fin 7168 → EReal => f (y 1)) (codes_row (by norm_num) _ most (fun k => aX_le m c hx _) most_small).symm

include h0 hx in
/-- The scales of the activations are the same. -/
theorem out8 : (Cert.ReferenceIdeal.Gen.dats m' 0 c).arrAt 8 (Cert.ReferenceIdeal.cfgs 0).N = (Cert.KernelIdeal.Val.dats m 0 c).arrAt 8 (Cert.KernelIdeal.cfgs 0).N := by
  refine (Cert.ReferenceIdeal.Val.final8 m' c).trans (Eq.trans ?_ (Cert.KernelIdeal.Val.final8 m c).symm)
  rw [aX_eq m m' c h0]
  funext y
  exact (scale_row (by norm_num) _ most (fun k => aX_le m c hx _) most_small).symm

include h0 h1 h2 h3 h4 h5 hx hp in
/-- The codes of the second normalisation are the same. -/
theorem out9 : (Cert.ReferenceIdeal.Gen.dats m' 0 c).arrAt 9 (Cert.ReferenceIdeal.cfgs 0).N = (Cert.KernelIdeal.Val.dats m 0 c).arrAt 9 (Cert.KernelIdeal.cfgs 0).N := by
  refine (Cert.ReferenceIdeal.Val.final9 m' c).trans (Eq.trans ?_ (Cert.KernelIdeal.Val.final9 m c).symm)
  funext y
  refine (congrArg (fun f : Fin 4608 → EReal => codesR f (y 1)) (fZ_eq m m' c h0 h1 h2 h3 h4 h5 hx (y 0))).trans ?_
  exact congrArg (fun f : Fin 4608 → EReal => f (y 1)) (codes_row (by norm_num) _ _ (fZ_le m c hp (y 0)) most_small').symm

include h0 h1 h2 h3 h4 h5 hx hp in
/-- The scales of the second normalisation are the same. -/
theorem out10 : (Cert.ReferenceIdeal.Gen.dats m' 0 c).arrAt 10 (Cert.ReferenceIdeal.cfgs 0).N = (Cert.KernelIdeal.Val.dats m 0 c).arrAt 10 (Cert.KernelIdeal.cfgs 0).N := by
  refine (Cert.ReferenceIdeal.Val.final10 m' c).trans (Eq.trans ?_ (Cert.KernelIdeal.Val.final10 m c).symm)
  funext y
  refine (congrArg (fun f : Fin 4608 → EReal => scaleR f) (fZ_eq m m' c h0 h1 h2 h3 h4 h5 hx (y 0))).trans ?_
  exact (scale_row (by norm_num) _ _ (fZ_le m c hp (y 0)) most_small').symm
end
end

end Cert.Equation
-- ==== Proof.lean ====
/- The claims: the frames of the kernel, of its idealization and of the reference, the ledger of the idealization, and the
   equality of the five results of the idealized kernel with the reference's on finite activations and second weights. -/
module

public import proofs.«01_k».proof.Defs
public import proofs.«01_k».proof.Proof.ForgetFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The ledger's one entry: the constant named `inv_n` is 1/4608 at the ideal values. -/
theorem preserves : Cert.preserves_Kernel_KernelIdeal :=
  IdealRules.named_const.statement Cert.KernelIdeal.κ "inv_n" .f32 0x39638E39#32 ((1 / 4608 : ℝ) : EReal) rfl

/-- The reference ends with its five arrays and its arguments. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v5_0) = (Cert.ReferenceIdeal.Gen.dats m 0 c).arrAt 6 (Cert.ReferenceIdeal.cfgs 0).N
      ∧ r.2.mem ((c.tc : Thread Cert.ReferenceIdeal.nD Cert.ReferenceIdeal.τ).loc Cert.ReferenceIdeal.main_v5_1) = (Cert.ReferenceIdeal.Gen.dats m 0 c).arrAt 7 (Cert.ReferenceIdeal.cfgs 0).N
      ∧ r.2.mem ((c.tc : Thread Cert.ReferenceIdeal.nD Cert.ReferenceIdeal.τ).loc Cert.ReferenceIdeal.main_v5_2) = (Cert.ReferenceIdeal.Gen.dats m 0 c).arrAt 8 (Cert.ReferenceIdeal.cfgs 0).N
      ∧ r.2.mem ((c.tc : Thread Cert.ReferenceIdeal.nD Cert.ReferenceIdeal.τ).loc Cert.ReferenceIdeal.main_v5_3) = (Cert.ReferenceIdeal.Gen.dats m 0 c).arrAt 9 (Cert.ReferenceIdeal.cfgs 0).N
      ∧ r.2.mem ((c.tc : Thread Cert.ReferenceIdeal.nD Cert.ReferenceIdeal.τ).loc Cert.ReferenceIdeal.main_v5_4) = (Cert.ReferenceIdeal.Gen.dats m 0 c).arrAt 10 (Cert.ReferenceIdeal.cfgs 0).N
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) := by
  run_from Cert.ReferenceIdeal.Gen.run_main m g

/-- Where `finite` holds of the arguments, the idealized kernel and the reference end with the same five results. -/
theorem algebraic : Cert.algebraic_KernelIdeal_ReferenceIdeal_pre_finite (hPre_finite := Cert.Equation.finite_facts) := by
  haveI := Cert.Equation.finite_facts
  intro m g m' g' hpre hagree
  have hle := fun c => Cert.Equation.finite_le _ _ _ _ _ _ (hpre c)
  refine ⟨fun c => (Cert.KernelIdeal.Val.dats m 0 c).arrAt 6 (Cert.KernelIdeal.cfgs 0).N, fun c => (Cert.KernelIdeal.Val.dats m 0 c).arrAt 7 (Cert.KernelIdeal.cfgs 0).N,
    fun c => (Cert.KernelIdeal.Val.dats m 0 c).arrAt 8 (Cert.KernelIdeal.cfgs 0).N, fun c => (Cert.KernelIdeal.Val.dats m 0 c).arrAt 9 (Cert.KernelIdeal.cfgs 0).N,
    fun c => (Cert.KernelIdeal.Val.dats m 0 c).arrAt 10 (Cert.KernelIdeal.cfgs 0).N, ?_, ?_⟩
  · run_from Cert.KernelIdeal.Val.run_main m g
  · have e6 := fun c => Cert.Equation.out6 m m' c (hagree c).1 (hagree c).2.1 (hagree c).2.2.1 (hagree c).2.2.2.1 (hagree c).2.2.2.2.1 (hle c).1
    have e7 := fun c => Cert.Equation.out7 m m' c (hagree c).1 (hle c).1
    have e8 := fun c => Cert.Equation.out8 m m' c (hagree c).1 (hle c).1
    have e9 := fun c => Cert.Equation.out9 m m' c (hagree c).1 (hagree c).2.1 (hagree c).2.2.1 (hagree c).2.2.2.1 (hagree c).2.2.2.2.1
      (hagree c).2.2.2.2.2 (hle c).1 (hle c).2
    have e10 := fun c => Cert.Equation.out10 m m' c (hagree c).1 (hagree c).2.1 (hagree c).2.2.1 (hagree c).2.2.2.1 (hagree c).2.2.2.2.1
      (hagree c).2.2.2.2.2 (hle c).1 (hle c).2
    exact (θ_run _ _ _).mono (fun r h c => ⟨(h c).1.trans (e6 c), (h c).2.1.trans (e7 c), (h c).2.2.1.trans (e8 c), (h c).2.2.2.1.trans (e9 c),
      (h c).2.2.2.2.1.trans (e10 c), (h c).2.2.2.2.2⟩) (reference_run m' g')

/-- All the claims. -/
theorem claim : Cert.Claim := ⟨Cert.Kernel.Gen.facts, Cert.KernelIdeal.Gen.facts, Cert.ReferenceIdeal.Gen.facts, Cert.Equation.finite_facts,
  fun m ρ _ => Cert.Kernel.Forget.frame m ρ,
  fun m ρ _ => Cert.KernelIdeal.Val.frame m ρ,
  fun m ρ _ => Cert.KernelIdeal.Val.frame m ρ,
  fun m ρ _ => Cert.ReferenceIdeal.Gen.frame m ρ,
  fun m ρ _ => Cert.ReferenceIdeal.Gen.frame m ρ,
  preserves,
  algebraic⟩

end Cert.Proof

end
